-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v6)) (v4 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_v7) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_v6) = v3 c
          ∧ r.2.mem ((c.tc : Thread Cert.ReferenceIdeal.nD Cert.ReferenceIdeal.τ).loc Cert.ReferenceIdeal.main_v7) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x16384 : Shape := ⟨3, ![1, 1024, 16384]⟩
abbrev S16384x3072 : Shape := ⟨2, ![16384, 3072]⟩
abbrev S_ : Shape := ⟨0, ![]⟩
abbrev S1024x16384 : Shape := ⟨2, ![1024, 16384]⟩
abbrev S1x1 : Shape := ⟨2, ![1, 1]⟩
abbrev S1024x3072 : Shape := ⟨2, ![1024, 3072]⟩
abbrev S16x1024x1024 : Shape := ⟨3, ![16, 1024, 1024]⟩
abbrev S1024x1024 : Shape := ⟨2, ![1024, 1024]⟩
abbrev S16x1024 : Shape := ⟨2, ![16, 1024]⟩
abbrev S16 : Shape := ⟨1, ![16]⟩
abbrev S2 : Shape := ⟨1, ![2]⟩
abbrev S1 : Shape := ⟨1, ![1]⟩
abbrev S1x1024x1024 : Shape := ⟨3, ![1, 1024, 1024]⟩
abbrev S1x16x1024 : Shape := ⟨3, ![1, 16, 1024]⟩
abbrev S1x1x1 : Shape := ⟨3, ![1, 1, 1]⟩
abbrev S1x1024x3072 : Shape := ⟨3, ![1, 1024, 3072]⟩

abbrev nBuf : Space → Nat
  | .hbm => 15
  | .vmem => 7
  | .smem => 4
  | _ => 0

abbrev bufTy : (tb : Table) → Fin (tcTables nBuf tb) → BufTy
  | .hbm, ⟨0, _⟩ => ⟨S1x1024x16384, .bf16⟩
  | .hbm, ⟨1, _⟩ => ⟨S16384x3072, .fp8e4m3⟩
  | .hbm, ⟨2, _⟩ => ⟨S_, .f32⟩
  | .hbm, ⟨3, _⟩ => ⟨S1024x16384, .bf16⟩
  | .hbm, ⟨4, _⟩ => ⟨S1x1, .f32⟩
  | .hbm, ⟨5, _⟩ => ⟨S1024x3072, .fp8e4m3⟩
  | .hbm, ⟨6, _⟩ => ⟨S1x1, .f32⟩
  | .hbm, ⟨7, _⟩ => ⟨S1x1, .f32⟩
  | .hbm, ⟨8, _⟩ => ⟨S1024x16384, .fp8e4m3⟩
  | .hbm, ⟨9, _⟩ => ⟨S1x1, .f32⟩
  | .hbm, ⟨10, _⟩ => ⟨S1x1024x3072, .fp8e4m3⟩
  | .hbm, ⟨11, _⟩ => ⟨S_, .f32⟩
  | .hbm, ⟨12, _⟩ => ⟨S_, .f32⟩
  | .hbm, ⟨13, _⟩ => ⟨S1x1024x16384, .fp8e4m3⟩
  | .hbm, ⟨14, _⟩ => ⟨S_, .f32⟩
  | .local _ .vmem, ⟨0, _⟩ => ⟨S16x1024x1024, .bf16⟩
  | .local _ .vmem, ⟨1, _⟩ => ⟨S1024x3072, .f32⟩
  | .local _ .vmem, ⟨2, _⟩ => ⟨S1024x3072, .fp8e4m3⟩
  | .local _ .vmem, ⟨3, _⟩ => ⟨S1024x3072, .fp8e4m3⟩
  | .local _ .vmem, ⟨4, _⟩ => ⟨S1024x1024, .fp8e4m3⟩
  | .local _ .vmem, ⟨5, _⟩ => ⟨S1024x1024, .fp8e4m3⟩
  | .local _ .vmem, ⟨6, _⟩ => ⟨S16x1024, .bf16⟩
  | .local _ .smem, ⟨0, _⟩ => ⟨S1x1, .f32⟩
  | .local _ .smem, ⟨1, _⟩ => ⟨S1x1, .f32⟩
  | .local _ .smem, ⟨2, _⟩ => ⟨S1x1, .f32⟩
  | .local _ .smem, ⟨3, _⟩ => ⟨S1x1, .f32⟩
  | _, _ => ⟨S1x1024x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_off1 (k0_t1 : Fin k0_t1_loop.trips) : Fin 1 → Nat :=
  let c0_i32_96 : BitVec 32 := 0#32
  let c0_i32 : BitVec 32 := 0#32
  let c1_i32 : BitVec 32 := 1#32
  let arg19 : BitVec 32 := Scf.iv c0_i32 c1_i32 k0_t1
  let c1_i32_95 : BitVec 32 := 1#32
  let v168 : BitVec 32 := Scalar.muli arg19 c1_i32_95
  let v169 : BitVec 32 := Scalar.addi c0_i32_96 v168
  ![v169.toNat]
def k0_off2 (k0_t1 : Fin k0_t1_loop.trips) : Fin 3 → Nat :=
  let c0_i32_96 : BitVec 32 := 0#32
  let c0_i32 : BitVec 32 := 0#32
  let c1_i32 : BitVec 32 := 1#32
  let arg19 : BitVec 32 := Scf.iv c0_i32 c1_i32 k0_t1
  let c1_i32_95 : BitVec 32 := 1#32
  let v168 : BitVec 32 := Scalar.muli arg19 c1_i32_95
  let v169 : BitVec 32 := Scalar.addi c0_i32_96 v168
  let c0_i32_98 : BitVec 32 := 0#32
  let c0_i32_99 : BitVec 32 := 0#32
  ![v169.toNat, 0, 0]
def k0_off3 (k0_t1 : Fin k0_t1_loop.trips) : Fin 2 → Nat :=
  let c0_i32_100 : BitVec 32 := 0#32
  let c0_i32_96 : BitVec 32 := 0#32
  let c0_i32 : BitVec 32 := 0#32
  let c1_i32 : BitVec 32 := 1#32
  let arg19 : BitVec 32 := Scf.iv c0_i32 c1_i32 k0_t1
  let c1_i32_95 : BitVec 32 := 1#32
  let v168 : BitVec 32 := Scalar.muli arg19 c1_i32_95
  let v169 : BitVec 32 := Scalar.addi c0_i32_96 v168
  let c1024_i32_97 : BitVec 32 := 1024#32
  let v170 : BitVec 32 := Scalar.muli v169 c1024_i32_97
  ![0, v170.toNat]
@[reducible] def k0_t2_loop : Scf.Loop 32 :=
  let c0_i32_10 : BitVec 32 := 0#32
  let c16_i32_11 : BitVec 32 := 16#32
  let v15 : BitVec 32 := Scalar.addi c0_i32_10 c16_i32_11
  let c1_i32_12 : BitVec 32 := 1#32
  ⟨c0_i32_10, v15, c1_i32_12⟩
def k0_off4 (k0_t2 : Fin k0_t2_loop.trips) : Fin 1 → Nat :=
  let c0_i32_96 : BitVec 32 := 0#32
  let c0_i32_10 : BitVec 32 := 0#32
  let c1_i32_12 : BitVec 32 := 1#32
  let arg19 : BitVec 32 := Scf.iv c0_i32_10 c1_i32_12 k0_t2
  let c1_i32_95 : BitVec 32 := 1#32
  let v168 : BitVec 32 := Scalar.muli arg19 c1_i32_95
  let v169 : BitVec 32 := Scalar.addi c0_i32_96 v168
  ![v169.toNat]
def k0_off5 (k0_t2 : Fin k0_t2_loop.trips) : Fin 3 → Nat :=
  let c0_i32_96 : BitVec 32 := 0#32
  let c0_i32_10 : BitVec 32 := 0#32
  let c1_i32_12 : BitVec 32 := 1#32
  let arg19 : BitVec 32 := Scf.iv c0_i32_10 c1_i32_12 k0_t2
  let c1_i32_95 : BitVec 32 := 1#32
  let v168 : BitVec 32 := Scalar.muli arg19 c1_i32_95
  let v169 : BitVec 32 := Scalar.addi c0_i32_96 v168
  let c0_i32_98 : BitVec 32 := 0#32
  let c0_i32_99 : BitVec 32 := 0#32
  ![v169.toNat, 0, 0]
def k0_off6 (k0_t2 : Fin k0_t2_loop.trips) : Fin 2 → Nat :=
  let c0_i32_100 : BitVec 32 := 0#32
  let c0_i32_96 : BitVec 32 := 0#32
  let c0_i32_10 : BitVec 32 := 0#32
  let c1_i32_12 : BitVec 32 := 1#32
  let arg19 : BitVec 32 := Scf.iv c0_i32_10 c1_i32_12 k0_t2
  let c1_i32_95 : BitVec 32 := 1#32
  let v168 : BitVec 32 := Scalar.muli arg19 c1_i32_95
  let v169 : BitVec 32 := Scalar.addi c0_i32_96 v168
  let c1024_i32_97 : BitVec 32 := 1024#32
  let v170 : BitVec 32 := Scalar.muli v169 c1024_i32_97
  ![0, v170.toNat]
@[reducible] def k0_t3_loop : Scf.Loop 32 :=
  let c0_i32_101 : BitVec 32 := 0#32
  let c16_i32_102 : BitVec 32 := 16#32
  let v176 : BitVec 32 := Scalar.addi c0_i32_101 c16_i32_102
  let c1_i32_103 : BitVec 32 := 1#32
  ⟨c0_i32_101, v176, c1_i32_103⟩
def k0_off7 (k0_t2 : Fin k0_t2_loop.trips) (k0_t3 : Fin k0_t3_loop.trips) (c0_i32_110 : BitVec 32) : Fin 3 → Nat :=
  let c0_i32_96 : BitVec 32 := 0#32
  let c0_i32_10 : BitVec 32 := 0#32
  let c1_i32_12 : BitVec 32 := 1#32
  let arg19 : BitVec 32 := Scf.iv c0_i32_10 c1_i32_12 k0_t2
  let c1_i32_95 : BitVec 32 := 1#32
  let v168 : BitVec 32 := Scalar.muli arg19 c1_i32_95
  let v169 : BitVec 32 := Scalar.addi c0_i32_96 v168
  let v182 : Index := Scalar.indexCast v169
  let c0_i32_106 : BitVec 32 := 0#32
  let c0_i32_101 : BitVec 32 := 0#32
  let c1_i32_103 : BitVec 32 := 1#32
  let arg20 : BitVec 32 := Scf.iv c0_i32_101 c1_i32_103 k0_t3
  let c1_i32_105 : BitVec 32 := 1#32
  let v177 : BitVec 32 := Scalar.muli arg20 c1_i32_105
  let v178 : BitVec 32 := Scalar.addi c0_i32_106 v177
  let c64_i32_109 : BitVec 32 := 64#32
  let v180 : BitVec 32 := Scalar.muli v178 c64_i32_109
  let v181 : BitVec 32 := Scalar.addi v180 c0_i32_110
  let v183 : Index := Scalar.indexCast v181
  let c0_111 : Index := 0#32
  ![v182.toNat, v183.toNat, 0]
@[reducible] def k0_t4_loop : Scf.Loop 32 :=
  let c0_i32_45 : BitVec 32 := 0#32
  let c8_i32_46 : BitVec 32 := 8#32
  let v87 : BitVec 32 := Scalar.addi c0_i32_45 c8_i32_46
  let c1_i32_47 : BitVec 32 := 1#32
  ⟨c0_i32_45, v87, c1_i32_47⟩
def k0_off8 (k0_t4 : Fin k0_t4_loop.trips) (c0_i32_98 : BitVec 32) : Fin 2 → Nat :=
  let c0_i32_96 : BitVec 32 := 0#32
  let c0_i32_45 : BitVec 32 := 0#32
  let c1_i32_47 : BitVec 32 := 1#32
  let arg19 : BitVec 32 := Scf.iv c0_i32_45 c1_i32_47 k0_t4
  let c1_i32_95 : BitVec 32 := 1#32
  let v168 : BitVec 32 := Scalar.muli arg19 c1_i32_95
  let v169 : BitVec 32 := Scalar.addi c0_i32_96 v168
  let c2_i32_97 : BitVec 32 := 2#32
  let v170 : BitVec 32 := Scalar.muli v169 c2_i32_97
  let v171 : BitVec 32 := Scalar.addi v170 c0_i32_98
  let c1024_i32_100 : BitVec 32 := 1024#32
  let v173 : BitVec 32 := Scalar.muli v171 c1024_i32_100
  let c0_i32_102 : BitVec 32 := 0#32
  ![v173.toNat, 0]
def k0_cond1 (k0_t4 : Fin k0_t4_loop.trips) : BitVec 1 :=
  let c0_i32_96 : BitVec 32 := 0#32
  let c0_i32_45 : BitVec 32 := 0#32
  let c1_i32_47 : BitVec 32 := 1#32
  let arg19 : BitVec 32 := Scf.iv c0_i32_45 c1_i32_47 k0_t4
  let c1_i32_95 : BitVec 32 := 1#32
  let v168 : BitVec 32 := Scalar.muli arg19 c1_i32_95
  let v169 : BitVec 32 := Scalar.addi c0_i32_96 v168
  let c2_i32_97 : BitVec 32 := 2#32
  let v170 : BitVec 32 := Scalar.muli v169 c2_i32_97
  let c0_i32_98 : BitVec 32 := 0#32
  let v171 : BitVec 32 := Scalar.addi v170 c0_i32_98
  let c1_i32_103 : BitVec 32 := 1#32
  let v177 : BitVec 1 := Scalar.cmpi .sge v171 c1_i32_103
  let v178 : BitVec 32 := Scalar.extui v177
  let c0_i32_104 : BitVec 32 := 0#32
  let v179 : BitVec 1 := Scalar.cmpi .ne v178 c0_i32_104
  v179

def k0_off9 (k0_t4 : Fin k0_t4_loop.trips) : Fin 2 → Nat :=
  let c0_i32_156 : BitVec 32 := 0#32
  let c0_i32_96 : BitVec 32 := 0#32
  let c0_i32_45 : BitVec 32 := 0#32
  let c1_i32_47 : BitVec 32 := 1#32
  let arg19 : BitVec 32 := Scf.iv c0_i32_45 c1_i32_47 k0_t4
  let c1_i32_95 : BitVec 32 := 1#32
  let v168 : BitVec 32 := Scalar.muli arg19 c1_i32_95
  let v169 : BitVec 32 := Scalar.addi c0_i32_96 v168
  let c2_i32_97 : BitVec 32 := 2#32
  let v170 : BitVec 32 := Scalar.muli v169 c2_i32_97
  let c0_i32_98 : BitVec 32 := 0#32
  let v171 : BitVec 32 := Scalar.addi v170 c0_i32_98
  let c1024_i32_154 : BitVec 32 := 1024#32
  let v250 : BitVec 32 := Scalar.muli v171 c1024_i32_154
  ![0, v250.toNat]
def k0_off10 (k0_t4 : Fin k0_t4_loop.trips) (c0_i32_98 : BitVec 32) : Fin 2 → Nat :=
  let c0_i32_107 : BitVec 32 := 0#32
  let c0_i32_96 : BitVec 32 := 0#32
  let c0_i32_45 : BitVec 32 := 0#32
  let c1_i32_47 : BitVec 32 := 1#32
  let arg19 : BitVec 32 := Scf.iv c0_i32_45 c1_i32_47 k0_t4
  let c1_i32_95 : BitVec 32 := 1#32
  let v168 : BitVec 32 := Scalar.muli arg19 c1_i32_95
  let v169 : BitVec 32 := Scalar.addi c0_i32_96 v168
  let c2_i32_97 : BitVec 32 := 2#32
  let v170 : BitVec 32 := Scalar.muli v169 c2_i32_97
  let v171 : BitVec 32 := Scalar.addi v170 c0_i32_98
  let c1024_i32_105 : BitVec 32 := 1024#32
  let v180 : BitVec 32 := Scalar.muli v171 c1024_i32_105
  ![0, v180.toNat]
def k0_off11 (k0_t4 : Fin k0_t4_loop.trips) (c0_i32_98 : BitVec 32) : Fin 3 → Nat :=
  let c0_i32_96 : BitVec 32 := 0#32
  let c0_i32_45 : BitVec 32 := 0#32
  let c1_i32_47 : BitVec 32 := 1#32
  let arg19 : BitVec 32 := Scf.iv c0_i32_45 c1_i32_47 k0_t4
  let c1_i32_95 : BitVec 32 := 1#32
  let v168 : BitVec 32 := Scalar.muli arg19 c1_i32_95
  let v169 : BitVec 32 := Scalar.addi c0_i32_96 v168
  let c2_i32_97 : BitVec 32 := 2#32
  let v170 : BitVec 32 := Scalar.muli v169 c2_i32_97
  let v171 : BitVec 32 := Scalar.addi v170 c0_i32_98
  let c1_i32_99 : BitVec 32 := 1#32
  let v172 : BitVec 32 := Scalar.addi v171 c1_i32_99
  let c15_i32 : BitVec 32 := 15#32
  let v184 : BitVec 32 := Scalar.minsi v172 c15_i32
  let v185 : Index := Scalar.indexCast v184
  let c0_108 : Index := 0#32
  let c0_109 : Index := 0#32
  ![v185.toNat, 0, 0]
def k0_cond2 (k0_t4 : Fin k0_t4_loop.trips) : BitVec 1 :=
  let c0_i32_96 : BitVec 32 := 0#32
  let c0_i32_45 : BitVec 32 := 0#32
  let c1_i32_47 : BitVec 32 := 1#32
  let arg19 : BitVec 32 := Scf.iv c0_i32_45 c1_i32_47 k0_t4
  let c1_i32_95 : BitVec 32 := 1#32
  let v168 : BitVec 32 := Scalar.muli arg19 c1_i32_95
  let v169 : BitVec 32 := Scalar.addi c0_i32_96 v168
  let c2_i32_97 : BitVec 32 := 2#32
  let v170 : BitVec 32 := Scalar.muli v169 c2_i32_97
  let c0_i32_98 : BitVec 32 := 0#32
  let v171 : BitVec 32 := Scalar.addi v170 c0_i32_98
  let c2_i32_122 : BitVec 32 := 2#32
  let v206 : BitVec 32 := Scalar.addi v171 c2_i32_122
  let c16_i32_123 : BitVec 32 := 16#32
  let v207 : BitVec 1 := Scalar.cmpi .slt v206 c16_i32_123
  let v208 : BitVec 32 := Scalar.extui v207
  let c0_i32_124 : BitVec 32 := 0#32
  let v209 : BitVec 1 := Scalar.cmpi .ne v208 c0_i32_124
  v209

def k0_off12 (k0_t4 : Fin k0_t4_loop.trips) : Fin 2 → Nat :=
  let c0_i32_96 : BitVec 32 := 0#32
  let c0_i32_45 : BitVec 32 := 0#32
  let c1_i32_47 : BitVec 32 := 1#32
  let arg19 : BitVec 32 := Scf.iv c0_i32_45 c1_i32_47 k0_t4
  let c1_i32_95 : BitVec 32 := 1#32
  let v168 : BitVec 32 := Scalar.muli arg19 c1_i32_95
  let v169 : BitVec 32 := Scalar.addi c0_i32_96 v168
  let c2_i32_97 : BitVec 32 := 2#32
  let v170 : BitVec 32 := Scalar.muli v169 c2_i32_97
  let c0_i32_98 : BitVec 32 := 0#32
  let v171 : BitVec 32 := Scalar.addi v170 c0_i32_98
  let c2_i32_154 : BitVec 32 := 2#32
  let v250 : BitVec 32 := Scalar.addi v171 c2_i32_154
  let c1024_i32_155 : BitVec 32 := 1024#32
  let v251 : BitVec 32 := Scalar.muli v250 c1024_i32_155
  let c0_i32_157 : BitVec 32 := 0#32
  ![v251.toNat, 0]
def k0_cond3 (k0_t4 : Fin k0_t4_loop.trips) : BitVec 1 :=
  let c0_i32_96 : BitVec 32 := 0#32
  let c0_i32_45 : BitVec 32 := 0#32
  let c1_i32_47 : BitVec 32 := 1#32
  let arg19 : BitVec 32 := Scf.iv c0_i32_45 c1_i32_47 k0_t4
  let c1_i32_95 : BitVec 32 := 1#32
  let v168 : BitVec 32 := Scalar.muli arg19 c1_i32_95
  let v169 : BitVec 32 := Scalar.addi c0_i32_96 v168
  let c2_i32_125 : BitVec 32 := 2#32
  let v210 : BitVec 32 := Scalar.muli v169 c2_i32_125
  let c1_i32_126 : BitVec 32 := 1#32
  let v211 : BitVec 32 := Scalar.addi v210 c1_i32_126
  let c1_i32_131 : BitVec 32 := 1#32
  let v217 : BitVec 1 := Scalar.cmpi .sge v211 c1_i32_131
  let v218 : BitVec 32 := Scalar.extui v217
  let c0_i32_132 : BitVec 32 := 0#32
  let v219 : BitVec 1 := Scalar.cmpi .ne v218 c0_i32_132
  v219

def k0_off13 (k0_t4 : Fin k0_t4_loop.trips) : Fin 2 → Nat :=
  let c0_i32_156 : BitVec 32 := 0#32
  let c0_i32_96 : BitVec 32 := 0#32
  let c0_i32_45 : BitVec 32 := 0#32
  let c1_i32_47 : BitVec 32 := 1#32
  let arg19 : BitVec 32 := Scf.iv c0_i32_45 c1_i32_47 k0_t4
  let c1_i32_95 : BitVec 32 := 1#32
  let v168 : BitVec 32 := Scalar.muli arg19 c1_i32_95
  let v169 : BitVec 32 := Scalar.addi c0_i32_96 v168
  let c2_i32_125 : BitVec 32 := 2#32
  let v210 : BitVec 32 := Scalar.muli v169 c2_i32_125
  let c1_i32_126 : BitVec 32 := 1#32
  let v211 : BitVec 32 := Scalar.addi v210 c1_i32_126
  let c1024_i32_154 : BitVec 32 := 1024#32
  let v250 : BitVec 32 := Scalar.muli v211 c1024_i32_154
  ![0, v250.toNat]
def k0_cond4 (k0_t4 : Fin k0_t4_loop.trips) : BitVec 1 :=
  let c0_i32_96 : BitVec 32 := 0#32
  let c0_i32_45 : BitVec 32 := 0#32
  let c1_i32_47 : BitVec 32 := 1#32
  let arg19 : BitVec 32 := Scf.iv c0_i32_45 c1_i32_47 k0_t4
  let c1_i32_95 : BitVec 32 := 1#32
  let v168 : BitVec 32 := Scalar.muli arg19 c1_i32_95
  let v169 : BitVec 32 := Scalar.addi c0_i32_96 v168
  let c2_i32_125 : BitVec 32 := 2#32
  let v210 : BitVec 32 := Scalar.muli v169 c2_i32_125
  let c1_i32_126 : BitVec 32 := 1#32
  let v211 : BitVec 32 := Scalar.addi v210 c1_i32_126
  let c2_i32_151 : BitVec 32 := 2#32
  let v246 : BitVec 32 := Scalar.addi v211 c2_i32_151
  let c16_i32_152 : BitVec 32 := 16#32
  let v247 : BitVec 1 := Scalar.cmpi .slt v246 c16_i32_152
  let v248 : BitVec 32 := Scalar.extui v247
  let c0_i32_153 : BitVec 32 := 0#32
  let v249 : BitVec 1 := Scalar.cmpi .ne v248 c0_i32_153
  v249

def k0_off14 (k0_t4 : Fin k0_t4_loop.trips) : Fin 2 → Nat :=
  let c0_i32_96 : BitVec 32 := 0#32
  let c0_i32_45 : BitVec 32 := 0#32
  let c1_i32_47 : BitVec 32 := 1#32
  let arg19 : BitVec 32 := Scf.iv c0_i32_45 c1_i32_47 k0_t4
  let c1_i32_95 : BitVec 32 := 1#32
  let v168 : BitVec 32 := Scalar.muli arg19 c1_i32_95
  let v169 : BitVec 32 := Scalar.addi c0_i32_96 v168
  let c2_i32_125 : BitVec 32 := 2#32
  let v210 : BitVec 32 := Scalar.muli v169 c2_i32_125
  let c1_i32_126 : BitVec 32 := 1#32
  let v211 : BitVec 32 := Scalar.addi v210 c1_i32_126
  let c2_i32_154 : BitVec 32 := 2#32
  let v250 : BitVec 32 := Scalar.addi v211 c2_i32_154
  let c1024_i32_155 : BitVec 32 := 1024#32
  let v251 : BitVec 32 := Scalar.muli v250 c1024_i32_155
  let c0_i32_157 : BitVec 32 := 0#32
  ![v251.toNat, 0]
abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x1024x16384 : Shape := ⟨3, ![1, 1024, 16384]⟩
abbrev S16384x3072 : Shape := ⟨2, ![16384, 3072]⟩
abbrev S_ : Shape := ⟨0, ![]⟩
abbrev S1024x16384 : Shape := ⟨2, ![1024, 16384]⟩
abbrev S1x1 : Shape := ⟨2, ![1, 1]⟩
abbrev S1024x3072 : Shape := ⟨2, ![1024, 3072]⟩
abbrev S1 : Shape := ⟨1, ![1]⟩
abbrev S1x1x1 : Shape := ⟨3, ![1, 1, 1]⟩
abbrev S1x1024x3072 : Shape := ⟨3, ![1, 1024, 3072]⟩

abbrev nBuf : Space → Nat
  | .hbm => 15
  | .vmem => 4
  | .smem => 4
  | _ => 0

abbrev bufTy : (tb : Table) → Fin (tcTables nBuf tb) → BufTy
  | .hbm, ⟨0, _⟩ => ⟨S1x1024x16384, .bf16⟩
  | .hbm, ⟨1, _⟩ => ⟨S16384x3072, .fp8e4m3⟩
  | .hbm, ⟨2, _⟩ => ⟨S_, .f32⟩
  | .hbm, ⟨3, _⟩ => ⟨S1024x16384, .bf16⟩
  | .hbm, ⟨4, _⟩ => ⟨S1x1, .f32⟩
  | .hbm, ⟨5, _⟩ => ⟨S1024x3072, .fp8e4m3⟩
  | .hbm, ⟨6, _⟩ => ⟨S1x1, .f32⟩
  | .hbm, ⟨7, _⟩ => ⟨S1x1, .f32⟩
  | .hbm, ⟨8, _⟩ => ⟨S1024x16384, .fp8e4m3⟩
  | .hbm, ⟨9, _⟩ => ⟨S1x1, .f32⟩
  | .hbm, ⟨10, _⟩ => ⟨S1x1024x3072, .fp8e4m3⟩
  | .hbm, ⟨11, _⟩ => ⟨S_, .f32⟩
  | .hbm, ⟨12, _⟩ => ⟨S_, .f32⟩
  | .hbm, ⟨13, _⟩ => ⟨S1x1024x16384, .fp8e4m3⟩
  | .hbm, ⟨14, _⟩ => ⟨S_, .f32⟩
  | .local _ .vmem, ⟨0, _⟩ => ⟨S1024x16384, .bf16⟩
  | .local _ .vmem, ⟨1, _⟩ => ⟨S16384x3072, .fp8e4m3⟩
  | .local _ .vmem, ⟨2, _⟩ => ⟨S1024x3072, .fp8e4m3⟩
  | .local _ .vmem, ⟨3, _⟩ => ⟨S1024x16384, .fp8e4m3⟩
  | .local _ .smem, ⟨0, _⟩ => ⟨S1x1, .f32⟩
  | .local _ .smem, ⟨1, _⟩ => ⟨S1x1, .f32⟩
  | .local _ .smem, ⟨2, _⟩ => ⟨S1x1, .f32⟩
  | .local _ .smem, ⟨3, _⟩ => ⟨S1x1, .f32⟩
  | _, _ => ⟨S1x1024x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_stg6_0 : Ref sig .tc := ⟨.vmem, 3, rfl⟩
abbrev cc0_stg2_0 : Ref sig .tc := ⟨.smem, 0, rfl⟩
abbrev cc0_stg4_0 : Ref sig .tc := ⟨.smem, 1, rfl⟩
abbrev cc0_stg5_0 : Ref sig .tc := ⟨.smem, 2, rfl⟩
abbrev cc0_stg7_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1024x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x3072 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x3072 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x16384 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .smem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Names.lean ====
/- Names for the pieces the kernel's own transfers move: the sixteen column blocks of `x` and of its codes, the sixteen
   row blocks of the weight codes, the sixteen slots of the staging buffer, and the semaphore cells. The body's slices are
   equal to these (`@[sl_canon]`). -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameSuffixV
public import Idealize.ShloMosaic.Lib.Ring
public import Idealize.ShloMosaic.Lib.WholeRead
public import Idealize.ShloMosaic.Lib.Tactic

@[expose] public section

noncomputable section

namespace Cert.Proof.RunKernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The user algebra: the pipeline library's, beside the counters the kernel's own transfers ride on. -/
abbrev UU (nD : Nat) (τ : Topo) : Type := Pipeline.UD sig nD τ
/-- No loop of unknown length: no variants. -/
abbrev 𝒱₀ : Variants := Variants.none

/-! ## The memrefs -/

abbrev xM : Memref sig .tc .hbm S1024x16384 .bf16 := Memref.whole main_v0
abbrev wM : Memref sig .tc .hbm S16384x3072 .fp8e4m3 := Memref.whole main_arg1
abbrev ycM : Memref sig .tc .hbm S1024x3072 .fp8e4m3 := Memref.whole main_v2_0
abbrev xcM : Memref sig .tc .hbm S1024x16384 .fp8e4m3 := Memref.whole main_v2_3
abbrev bufM : Memref sig .tc .vmem S16x1024x1024 .bf16 := Memref.whole cc0_scratch0
abbrev accM : Memref sig .tc .vmem S1024x3072 .f32 := Memref.whole cc0_scratch1
abbrev w0M : Memref sig .tc .vmem S1024x3072 .fp8e4m3 := Memref.whole cc0_scratch2
abbrev w1M : Memref sig .tc .vmem S1024x3072 .fp8e4m3 := Memref.whole cc0_scratch3
abbrev c0M : Memref sig .tc .vmem S1024x1024 .fp8e4m3 := Memref.whole cc0_scratch4
abbrev c1M : Memref sig .tc .vmem S1024x1024 .fp8e4m3 := Memref.whole cc0_scratch5
abbrev amM : Memref sig .tc .vmem S16x1024 .bf16 := Memref.whole cc0_scratch6

/-! ## Offsets -/

abbrev colOff (b : Fin 16) : Fin 2 → Nat := ![0, 1024 * b.val]
theorem colOff_inb (b : Fin 16) : ∀ a, colOff b a + S1024x1024.size a ≤ S1024x16384.size a := by
  have := b.isLt; intro a; fin_cases a
  · show 0 + 1024 ≤ 1024; omega
  · show 1024 * b.val + 1024 ≤ 16384; omega
abbrev rowOff (b : Fin 16) : Fin 2 → Nat := ![1024 * b.val, 0]
theorem rowOff_inb (b : Fin 16) : ∀ a, rowOff b a + S1024x3072.size a ≤ S16384x3072.size a := by
  have := b.isLt; intro a; fin_cases a
  · show 1024 * b.val + 1024 ≤ 16384; omega
  · show 0 + 3072 ≤ 3072; omega
abbrev slotOff (s : Fin 16) : Fin 3 → Nat := ![s.val, 0, 0]
theorem slotOff_inb (s : Fin 16) : ∀ a, slotOff s a + S1x1024x1024.size a ≤ S16x1024x1024.size a := by
  have := s.isLt; intro a; fin_cases a
  · show s.val + 1 ≤ 16; omega
  · show 0 + 1024 ≤ 1024; omega
  · show 0 + 1024 ≤ 1024; omega
abbrev semOff (s : Fin 16) : Fin 1 → Nat := ![s.val]
theorem semOff_inb (s : Fin 16) : ∀ a, semOff s a + S1.size a ≤ S16.size a := by
  have := s.isLt; intro a; fin_cases a; show s.val + 1 ≤ 16; omega
abbrev sem2Off (s : Fin 2) : Fin 1 → Nat := ![s.val]
theorem sem2Off_inb (s : Fin 2) : ∀ a, sem2Off s a + S1.size a ≤ S2.size a := by
  have := s.isLt; intro a; fin_cases a; show s.val + 1 ≤ 2; omega

/-! ## The pieces -/

/-- Column block `b` of `x`. -/
def xblk (b : Fin 16) : Memref sig .tc .hbm S1024x1024 .bf16 :=
  xM.slice (Rect.unit (s := S1024x16384) (colOff b) S1024x1024.size (colOff_inb b)) (fun _ => rfl)
/-- Row block `b` of the weight codes. -/
def wblk (b : Fin 16) : Memref sig .tc .hbm S1024x3072 .fp8e4m3 :=
  wM.slice (Rect.unit (s := S16384x3072) (rowOff b) S1024x3072.size (rowOff_inb b)) (fun _ => rfl)
/-- Column block `b` of `x`'s codes. -/
def cblk (b : Fin 16) : Memref sig .tc .hbm S1024x1024 .fp8e4m3 :=
  xcM.slice (Rect.unit (s := S1024x16384) (colOff b) S1024x1024.size (colOff_inb b)) (fun _ => rfl)
/-- Slot `s` of the staging buffer. -/
def slot (s : Fin 16) : Memref sig .tc .vmem S1024x1024 .bf16 :=
  (bufM.slice (Rect.unit (s := S16x1024x1024) (slotOff s) S1x1024x1024.size (slotOff_inb s)) (fun _ => rfl)).squeeze S1024x1024 squeezes_S1x1024x1024_S1024x1024
/-- Slot `s`'s cell. -/
def xsm (s : Fin 16) : DmaSems sig S_ := (cc0_scratch7.slice (Rect.unit (s := S16) (semOff s) S1.size (semOff_inb s))).squeeze S_ squeezes_S1_S_
/-- The weight buffers' cells. -/
def wsm (s : Fin 2) : DmaSems sig S_ := (cc0_scratch8.slice (Rect.unit (s := S2) (sem2Off s) S1.size (sem2Off_inb s))).squeeze S_ squeezes_S1_S_
/-- The code buffers' cells. -/
def osm (s : Fin 2) : DmaSems sig S_ := (cc0_scratch9.slice (Rect.unit (s := S2) (sem2Off s) S1.size (sem2Off_inb s))).squeeze S_ squeezes_S1_S_

instance (s : Fin 16) : ClosedOff (slotOff s) := ⟨slotOff s, rfl⟩
instance (s : Fin 16) : ClosedOff (colOff s) := ⟨colOff s, rfl⟩
instance (s : Fin 16) : ClosedOff (rowOff s) := ⟨rowOff s, rfl⟩

/-! ## The trips -/

theorem t1_lt (k : Fin k0_t1_loop.trips) : k.val < 16 := Nat.lt_of_lt_of_le k.isLt k0_t1_abs.2.1
theorem t2_lt (k : Fin k0_t2_loop.trips) : k.val < 16 := Nat.lt_of_lt_of_le k.isLt k0_t2_abs.2.1
theorem t3_lt (k : Fin k0_t3_loop.trips) : k.val < 16 := Nat.lt_of_lt_of_le k.isLt k0_t3_abs.2.1
theorem t4_lt (k : Fin k0_t4_loop.trips) : k.val < 8 := Nat.lt_of_lt_of_le k.isLt k0_t4_abs.2.1
theorem t1_trips : k0_t1_loop.trips = 16 := by decide
theorem t2_trips : k0_t2_loop.trips = 16 := by decide
theorem t3_trips : k0_t3_loop.trips = 16 := by decide
theorem t4_trips : k0_t4_loop.trips = 8 := by decide

/-- Trips as block numbers. -/
abbrev i1 (k : Fin k0_t1_loop.trips) : Fin 16 := ⟨k.val, t1_lt k⟩
abbrev i2 (k : Fin k0_t2_loop.trips) : Fin 16 := ⟨k.val, t2_lt k⟩

/-! ## The body's slices are these -/

theorem xblk_congr {off : Fin 2 → Nat} {b : Fin 16} (e : off = colOff b) (hh hs) :
    xM.slice (Rect.unit (s := S1024x16384) off S1024x1024.size hh) hs = xblk b := Memref.slice_unit_congr _ e _ _ _ (fun _ => rfl)
theorem cblk_congr {off : Fin 2 → Nat} {b : Fin 16} (e : off = colOff b) (hh hs) :
    xcM.slice (Rect.unit (s := S1024x16384) off S1024x1024.size hh) hs = cblk b := Memref.slice_unit_congr _ e _ _ _ (fun _ => rfl)
theorem wblk_congr {off : Fin 2 → Nat} {b : Fin 16} (e : off = rowOff b) (hh hs) :
    wM.slice (Rect.unit (s := S16384x3072) off S1024x3072.size hh) hs = wblk b := Memref.slice_unit_congr _ e _ _ _ (fun _ => rfl)
theorem slot_congr {off : Fin 3 → Nat} {s : Fin 16} (e : off = slotOff s) (hh hs) :
    (bufM.slice (Rect.unit (s := S16x1024x1024) off S1x1024x1024.size hh) hs).squeeze S1024x1024 squeezes_S1x1024x1024_S1024x1024 = slot s :=
  congrArg (fun M : Memref sig .tc .vmem S1x1024x1024 .bf16 => M.squeeze S1024x1024 squeezes_S1x1024x1024_S1024x1024) (Memref.slice_unit_congr _ e _ _ _ _)
theorem xsm_congr {off : Fin 1 → Nat} {s : Fin 16} (e : off = semOff s) (hh) :
    (cc0_scratch7.slice (Rect.unit (s := S16) off S1.size hh)).squeeze S_ squeezes_S1_S_ = xsm s :=
  congrArg (fun A : DmaSems sig S1 => A.squeeze S_ squeezes_S1_S_) (SemArray.slice_unit_congr _ e _ _)

@[sl_canon] theorem xblk1 (k : Fin k0_t1_loop.trips) (hh hs) :
    xM.slice (Rect.unit (s := S1024x16384) (k0_off3 k) S1024x1024.size hh) hs = xblk (i1 k) := xblk_congr (k0_off3_eq k) _ _
@[sl_canon] theorem slot1 (k : Fin k0_t1_loop.trips) (hh hs) :
    (bufM.slice (Rect.unit (s := S16x1024x1024) (k0_off2 k) S1x1024x1024.size hh) hs).squeeze S1024x1024 squeezes_S1x1024x1024_S1024x1024 = slot (i1 k) := slot_congr (k0_off2_eq k) _ _
@[sl_canon] theorem xsm1 (k : Fin k0_t1_loop.trips) (hh) :
    (cc0_scratch7.slice (Rect.unit (s := S16) (k0_off1 k) S1.size hh)).squeeze S_ squeezes_S1_S_ = xsm (i1 k) := xsm_congr (k0_off1_eq k) _
@[sl_canon] theorem xblk2 (k : Fin k0_t2_loop.trips) (hh hs) :
    xM.slice (Rect.unit (s := S1024x16384) (k0_off6 k) S1024x1024.size hh) hs = xblk (i2 k) := xblk_congr (k0_off6_eq k) _ _
@[sl_canon] theorem slot2 (k : Fin k0_t2_loop.trips) (hh hs) :
    (bufM.slice (Rect.unit (s := S16x1024x1024) (k0_off5 k) S1x1024x1024.size hh) hs).squeeze S1024x1024 squeezes_S1x1024x1024_S1024x1024 = slot (i2 k) := slot_congr (k0_off5_eq k) _ _
@[sl_canon] theorem xsm2 (k : Fin k0_t2_loop.trips) (hh) :
    (cc0_scratch7.slice (Rect.unit (s := S16) (k0_off4 k) S1.size hh)).squeeze S_ squeezes_S1_S_ = xsm (i2 k) := xsm_congr (k0_off4_eq k) _

@[sl_canon] theorem wsmL0 (hh) : (cc0_scratch8.slice (Rect.unit (s := S2) ![0] S1.size hh)).squeeze S_ squeezes_S1_S_ = wsm 0 := rfl
@[sl_canon] theorem wsmL1 (hh) : (cc0_scratch8.slice (Rect.unit (s := S2) ![1] S1.size hh)).squeeze S_ squeezes_S1_S_ = wsm 1 := rfl
@[sl_canon] theorem osmL0 (hh) : (cc0_scratch9.slice (Rect.unit (s := S2) ![0] S1.size hh)).squeeze S_ squeezes_S1_S_ = osm 0 := rfl
@[sl_canon] theorem osmL1 (hh) : (cc0_scratch9.slice (Rect.unit (s := S2) ![1] S1.size hh)).squeeze S_ squeezes_S1_S_ = osm 1 := rfl
@[sl_canon] theorem wblkL0 (hh hs) : wM.slice (Rect.unit (s := S16384x3072) ![0, 0] S1024x3072.size hh) hs = wblk 0 := wblk_congr (by decide) _ _
@[sl_canon] theorem wblkL1 (hh hs) : wM.slice (Rect.unit (s := S16384x3072) ![1024, 0] S1024x3072.size hh) hs = wblk 1 := wblk_congr (by decide) _ _
@[sl_canon] theorem cblkL15 (hh hs) : xcM.slice (Rect.unit (s := S1024x16384) ![0, 15360] S1024x1024.size hh) hs = cblk 15 := cblk_congr (by decide) _ _

/-! The main loop's trip `t`: chunks `2 t` and `2 t + 1`. -/

@[sl_canon] theorem wblk4a (t : Fin k0_t4_loop.trips) (hh hs) :
    wM.slice (Rect.unit (s := S16384x3072) (k0_off8 t 0#32) S1024x3072.size hh) hs = wblk (Ring.bk 16 (2 * t.val)) :=
  wblk_congr ((k0_off8_eq t 0).trans (by have := t4_lt t; simp [rowOff, Ring.bk_val (show 2 * t.val < 16 by omega)]; omega)) _ _
@[sl_canon] theorem wblk4b (t : Fin k0_t4_loop.trips) (hh hs) :
    wM.slice (Rect.unit (s := S16384x3072) (k0_off8 t 1#32) S1024x3072.size hh) hs = wblk (Ring.bk 16 (2 * t.val + 1)) :=
  wblk_congr ((k0_off8_eq t 1).trans (by have := t4_lt t; simp [rowOff, Ring.bk_val (show 2 * t.val + 1 < 16 by omega)]; omega)) _ _
theorem off12_val : ∀ t : Fin k0_t4_loop.trips, t.val < 7 → k0_off12 t = ![2048 * t.val + 2048, 0] := by decide +kernel
theorem off14_val : ∀ t : Fin k0_t4_loop.trips, t.val < 7 → k0_off14 t = ![2048 * t.val + 3072, 0] := by decide +kernel
@[sl_canon] theorem wblk4c (t : Fin k0_t4_loop.trips) (h7 : t.val < 7) (hh hs) :
    wM.slice (Rect.unit (s := S16384x3072) (k0_off12 t) S1024x3072.size hh) hs = wblk (Ring.bk 16 (2 * t.val + 2)) :=
  wblk_congr ((off12_val t h7).trans (by simp [rowOff, Ring.bk_val (show 2 * t.val + 2 < 16 by omega)]; omega)) _ _
@[sl_canon] theorem wblk4d (t : Fin k0_t4_loop.trips) (h7 : t.val < 7) (hh hs) :
    wM.slice (Rect.unit (s := S16384x3072) (k0_off14 t) S1024x3072.size hh) hs = wblk (Ring.bk 16 (2 * t.val + 3)) :=
  wblk_congr ((off14_val t h7).trans (by simp [rowOff, Ring.bk_val (show 2 * t.val + 3 < 16 by omega)]; omega)) _ _
@[sl_canon] theorem cblk4p (t : Fin k0_t4_loop.trips) (hh hs) :
    xcM.slice (Rect.unit (s := S1024x16384) (k0_off9 t) S1024x1024.size hh) hs = cblk (Ring.bk 16 (2 * t.val)) :=
  cblk_congr ((k0_off9_eq t).trans (by have := t4_lt t; simp [colOff, Ring.bk_val (show 2 * t.val < 16 by omega)]; omega)) _ _
@[sl_canon] theorem cblk4a (t : Fin k0_t4_loop.trips) (hh hs) :
    xcM.slice (Rect.unit (s := S1024x16384) (k0_off10 t 0#32) S1024x1024.size hh) hs = cblk (Ring.bk 16 (2 * t.val)) :=
  cblk_congr ((k0_off10_eq t 0).trans (by have := t4_lt t; simp [colOff, Ring.bk_val (show 2 * t.val < 16 by omega)]; omega)) _ _
@[sl_canon] theorem cblk4b (t : Fin k0_t4_loop.trips) (hh hs) :
    xcM.slice (Rect.unit (s := S1024x16384) (k0_off10 t 1#32) S1024x1024.size hh) hs = cblk (Ring.bk 16 (2 * t.val + 1)) :=
  cblk_congr ((k0_off10_eq t 1).trans (by have := t4_lt t; simp [colOff, Ring.bk_val (show 2 * t.val + 1 < 16 by omega)]; omega)) _ _
@[sl_canon] theorem cblk4q (t : Fin k0_t4_loop.trips) (hh hs) :
    xcM.slice (Rect.unit (s := S1024x16384) (k0_off13 t) S1024x1024.size hh) hs = cblk (Ring.bk 16 (2 * t.val + 1)) :=
  cblk_congr ((k0_off13_eq t).trans (by have := t4_lt t; simp [colOff, Ring.bk_val (show 2 * t.val + 1 < 16 by omega)]; omega)) _ _

/-- The slot the trip reads next: `2 t + 1`, and `min (2 t + 2) 15`. -/
theorem off11a : ∀ t : Fin k0_t4_loop.trips, k0_off11 t 0#32 = ![2 * t.val + 1, 0, 0] := by decide +kernel
theorem off11b : ∀ t : Fin k0_t4_loop.trips, k0_off11 t 1#32 = ![min (2 * t.val + 2) 15, 0, 0] := by decide +kernel

theorem cond1_iff : ∀ t : Fin k0_t4_loop.trips, k0_cond1 t = 1#1 ↔ 0 < t.val := by decide +kernel
theorem cond2_iff : ∀ t : Fin k0_t4_loop.trips, k0_cond2 t = 1#1 ↔ t.val < 7 := by decide +kernel
theorem cond3_true : ∀ t : Fin k0_t4_loop.trips, k0_cond3 t = 1#1 := by decide +kernel
theorem cond4_iff : ∀ t : Fin k0_t4_loop.trips, k0_cond4 t = 1#1 ↔ t.val < 7 := by decide +kernel

end Cert.Proof.RunKernelIdeal

end
-- ==== Proof.Load.lean ====
/- The first loop: the sixteen column blocks of `x` are sent to their slots, each on its own cell. -/
module

public import proofs.«01_k».proof.Proof.Names

@[expose] public section

noncomputable section

namespace Cert.Proof.RunKernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-- An equation as an entailment. -/
theorem entails_of_eq {P Q : sProp 𝕄} (e : P = Q) : P ⊢ Q := e ▸ .rfl

/-! ## A family of which the first `k` members have moved on -/

/-- Members before `k` are in state `Q`, the others in state `P`. -/
def fam {n : ℕ} (P Q : Fin n → sProp 𝕄) (k : ℕ) : sProp 𝕄 := bigSep Finset.univ (fun b : Fin n => if b.val < k then Q b else P b)
/-- The members other than the `k`-th. -/
def famRest {n : ℕ} (P Q : Fin n → sProp 𝕄) (k : Fin n) : sProp 𝕄 := bigSep (Finset.univ.erase k) (fun b : Fin n => if b.val < k.val then Q b else P b)

theorem fam_here {n : ℕ} (P Q : Fin n → sProp 𝕄) (k : Fin n) : fam P Q k.val = iprop(P k ∗ famRest P Q k) := by
  unfold fam famRest
  conv_lhs => rw [show (Finset.univ : Finset (Fin n)) = insert k (Finset.univ.erase k) from (Finset.insert_erase (Finset.mem_univ k)).symm]
  rw [bigSep_insert (Finset.notMem_erase k _), if_neg (lt_irrefl _)]; rfl
theorem fam_next {n : ℕ} (P Q : Fin n → sProp 𝕄) (k : Fin n) : fam P Q (k.val + 1) = iprop(Q k ∗ famRest P Q k) := by
  unfold fam famRest
  conv_lhs => rw [show (Finset.univ : Finset (Fin n)) = insert k (Finset.univ.erase k) from (Finset.insert_erase (Finset.mem_univ k)).symm]
  rw [bigSep_insert (Finset.notMem_erase k _), if_pos (Nat.lt_succ_self _)]
  refine congrArg (fun X => iprop(Q k ∗ X)) (bigSep_congr fun b hb => ?_)
  have hne : b.val ≠ k.val := fun h => Finset.ne_of_mem_erase hb (Fin.ext h)
  by_cases h : b.val < k.val
  · rw [if_pos h, if_pos (by omega)]
  · rw [if_neg h, if_neg (by omega)]
theorem fam_zero {n : ℕ} (P Q : Fin n → sProp 𝕄) : fam P Q 0 = bigSep Finset.univ P := bigSep_congr fun b _ => if_neg (Nat.not_lt_zero _)
theorem fam_full {n : ℕ} (P Q : Fin n → sProp 𝕄) : fam P Q n = bigSep Finset.univ Q := bigSep_congr fun b _ => if_pos b.isLt

/-! ## The pieces -/

section Pieces
variable (c : Dev nD) (XA : Buf (Elt F) (xM.view.loc (c : Thread nD τ)))

abbrev slotP (s : Fin 16) (f : Buf (Elt F) ((slot s).view.loc (c : Thread nD τ))) : sProp 𝕄 :=
  (slot s).view.loc (c : Thread nD τ) ↦[(slot s).view.set]{fullShare} f
/-- Column block `b` of `x` at home. -/
abbrev xHome (b : Fin 16) : sProp 𝕄 := (xblk b).view.loc (c : Thread nD τ) ↦[(xblk b).view.set]{fullShare} XA
abbrev xCell (s : Fin 16) : sProp 𝕄 := semVal ((c : Thread nD τ), SemLoc.dma (xsm s).sem) 0
/-- What block `b`'s transfer leaves in its slot. -/
abbrev xLanded (b : Fin 16) (f : Buf (Elt F) ((slot b).view.loc (c : Thread nD τ))) : Buf (Elt F) ((slot b).view.loc (c : Thread nD τ)) :=
  (slot b).view.writes (Elt F) f [⟨Rect.whole S1024x1024, ReadAs.same.apply ((xblk b).view.read (Elt F) XA)⟩]
/-- Block `b` on its way to its slot. -/
abbrev xFlight (b : Fin 16) (f : Buf (Elt F) ((slot b).view.loc (c : Thread nD τ))) : sProp 𝕄 :=
  Transfers.Flight countersEmb (c : Thread nD τ) (SemLoc.dma (xsm b).sem) () 65536 iprop(slotP c b (xLanded c XA b f) ∗ xHome c XA b)

/-- Before its transfer: the slot at anything, the block at home, the cell at zero. -/
def xIdle (b : Fin 16) : sProp 𝕄 := iprop((∃ f, slotP c b f) ∗ xHome c XA b ∗ xCell c b)
/-- During it. -/
def xGoing (b : Fin 16) : sProp 𝕄 := iprop(∃ f, xFlight c XA b f)
end Pieces

section Trip
variable (c : Dev nD) (XA : Buf (Elt F) (xM.view.loc (c : Thread nD τ)))
  (arg2 : Memref sig .tc .smem S1x1 .f32) (harg2 : arg2.IsWhole)
  (arg4 : Memref sig .tc .smem S1x1 .f32) (harg4 : arg4.IsWhole)
  (arg5 : Memref sig .tc .smem S1x1 .f32) (harg5 : arg5.IsWhole)
  (arg7 : Memref sig .tc .smem S1x1 .f32) (harg7 : arg7.IsWhole)

abbrev owesP : sProp 𝕄 := iprop(∃ W, owes (c : Thread nD τ) 0 W)

/-- Before trip `k`: the blocks before `k` on their way, the others idle. -/
def inv1 (k : ℕ) : sProp 𝕄 := iprop(fam (xIdle c XA) (xGoing c XA) k ∗ owesP c)

set_option warn.classDefReducibility false in
/-- The first loop's invariant. -/
@[sl_loop] def loopInv1 :
    LoopInvTy_k0_t1 (F := F) Unit ℕ (UU nD τ) ℕ 𝒱₀ c none Set.univ xM (Memref.isWhole_whole _) wM (Memref.isWhole_whole _) arg2 harg2 ycM (Memref.isWhole_whole _) arg4 harg4 arg5 harg5 xcM (Memref.isWhole_whole _) arg7 harg7 bufM (Memref.isWhole_whole _) accM (Memref.isWhole_whole _) w0M (Memref.isWhole_whole _) w1M (Memref.isWhole_whole _) c0M (Memref.isWhole_whole _) c1M (Memref.isWhole_whole _) amM (Memref.isWhole_whole _) cc0_scratch7 cc0_scratch8 cc0_scratch9 cc0_scratch10 where
  inv k _ := inv1 c XA k
  step k _ := by
    unfold inv1
    rw [show fam (xIdle c XA) (xGoing c XA) k.val = _ from fam_here _ _ (i1 k), show fam (xIdle c XA) (xGoing c XA) (k.val + 1) = _ from fam_next _ _ (i1 k)]
    unfold xIdle
    iintro ⟨⟨⟨⟨%f, HS⟩, HX, HC⟩, HR⟩, ⟨%W, HW⟩⟩
    sl_unfold [k0_t1_body]
    sl_exec
    sl_step
    isplitr [HW]
    · isplitl [HC]
      · unfold xGoing; iexists f; iexact HC
      iexact HR
    iexists _; iexact HW
end Trip

end Cert.Proof.RunKernelIdeal

end
-- ==== Proof.Amax.lean ====
/- The second loop: each block of `x` is waited for and folded into the running maximum. -/
module

public import proofs.«01_k».proof.Proof.Load
public import Idealize.ShloMosaic.Lib.ValueLayout
public import Idealize.ShloMosaic.Lib.VecWindow

@[expose] public section

noncomputable section

namespace Cert.Proof.RunKernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UU nD τ) ℕ

/-- The elements of a slot. -/
theorem slot_set (s : Fin 16) : (slot s).view.set = (Rect.unit (s := S16x1024x1024) (slotOff s) S1x1024x1024.size (slotOff_inb s)).set :=
  (View.set_reshape _ _).trans (View.set_slice_whole _ _)

/-- Sixteen rows of a slot lie in the slot. -/
theorem rows3_sub (k2 : Fin k0_t2_loop.trips) (k3 : Fin k0_t3_loop.trips) (j : Fin 4) :
    (bufM.access (Rect.unit (s := S16x1024x1024) (k0_off7 k2 k3 (BitVec.ofNat 32 (16 * j.val))) S1x16x1024.size (k0_off7_inb k2 k3 j))).set ⊆ (slot (i2 k2)).view.set := by
  rw [slot_set, show (bufM.access (Rect.unit (s := S16x1024x1024) (k0_off7 k2 k3 (BitVec.ofNat 32 (16 * j.val))) S1x16x1024.size (k0_off7_inb k2 k3 j))).set = _ from View.set_slice_whole _ _]
  intro i hi
  have h3 := t3_lt k3
  have hj := j.isLt
  have hm := Rect.mem_set_unit.1 hi
  have hm' : ∀ a : Fin 3, (![k2.val, 64 * k3.val + 16 * j.val, 0] : Fin 3 → ℕ) a ≤ (i a).val ∧ (i a).val < (![k2.val, 64 * k3.val + 16 * j.val, 0] : Fin 3 → ℕ) a + (![1, 16, 1024] : Fin 3 → ℕ) a := by
    rw [← k0_off7_eq k2 k3 j]; exact hm
  refine Rect.mem_set_unit.2 fun a => ?_
  have h0 := hm' 0; have h1 := hm' 1; have h2 := hm' 2
  have e0 : k2.val ≤ (i 0).val ∧ (i 0).val < k2.val + 1 := h0
  have e1 : 64 * k3.val + 16 * j.val ≤ (i 1).val ∧ (i 1).val < 64 * k3.val + 16 * j.val + 16 := h1
  have e2 : 0 ≤ (i 2).val ∧ (i 2).val < 0 + 1024 := h2
  match a with
  | 0 => exact e0
  | 1 => exact (⟨by omega, by omega⟩ : 0 ≤ (i 1).val ∧ (i 1).val < 0 + 1024)
  | 2 => exact e2

section Trip
variable (c : Dev nD) (XA : Buf (Elt F) (xM.view.loc (c : Thread nD τ)))
  (arg2 : Memref sig .tc .smem S1x1 .f32) (harg2 : arg2.IsWhole)
  (arg4 : Memref sig .tc .smem S1x1 .f32) (harg4 : arg4.IsWhole)
  (arg5 : Memref sig .tc .smem S1x1 .f32) (harg5 : arg5.IsWhole)
  (arg7 : Memref sig .tc .smem S1x1 .f32) (harg7 : arg7.IsWhole)
  (XB : Buf (Elt F) (bufM.view.loc (c : Thread nD τ)))

/-- A memref held whole, reading `v`. -/
def ownsV {sp : Space} {s : Shape} {e : EltTy} (M : Memref sig .tc sp s e) (v : s.Idx → Elt F e) : sProp 𝕄 :=
  iprop(∃ f, (M.view.loc (c : Thread nD τ) ↦[M.view.set]{fullShare} f) ∗ ⌜M.view.read (Elt F) f = v⌝)

/-- Sixteen rows of a slot, as trip `r` reads them. -/
def rows3 (k2 : Fin k0_t2_loop.trips) (k3 : Fin k0_t3_loop.trips) (j : Fin 4) : Vec F S1x16x1024 .bf16 :=
  bufM.view.readAt (Elt F) (Rect.unit (s := S16x1024x1024) (k0_off7 k2 k3 (BitVec.ofNat 32 (16 * j.val))) S1x16x1024.size (k0_off7_inb k2 k3 j)).toLoadRect XB

/-- The running maximum before trip `r` over slot `k2`, from `a0`. -/
def AM3 (k2 : Fin k0_t2_loop.trips) (a0 : Vec F S16x1024 .bf16) : ℕ → Vec F S16x1024 .bf16
  | 0 => a0
  | r + 1 => if h : r < k0_t3_loop.trips then
      k0_pay8 (AM3 k2 a0 r) (rows3 c XB k2 ⟨r, h⟩ 0) (rows3 c XB k2 ⟨r, h⟩ 1) (rows3 c XB k2 ⟨r, h⟩ 2) (rows3 c XB k2 ⟨r, h⟩ 3)
    else AM3 k2 a0 r

theorem AM3_succ (k2 : Fin k0_t2_loop.trips) (a0 : Vec F S16x1024 .bf16) (r : Fin k0_t3_loop.trips) :
    AM3 c XB k2 a0 (r.val + 1) = k0_pay8 (AM3 c XB k2 a0 r.val) (rows3 c XB k2 r 0) (rows3 c XB k2 r 1) (rows3 c XB k2 r 2) (rows3 c XB k2 r 3) := by
  rw [AM3, dif_pos r.isLt]

/-- The running maximum before slot `k`. -/
def AM2 : ℕ → Vec F S16x1024 .bf16
  | 0 => k0_pay7
  | k + 1 => if h : k < k0_t2_loop.trips then AM3 c XB ⟨k, h⟩ (AM2 k) k0_t3_loop.trips else AM2 k

theorem AM2_succ (k : Fin k0_t2_loop.trips) : AM2 c XB (k.val + 1) = AM3 c XB k (AM2 c XB k.val) k0_t3_loop.trips := by
  rw [AM2, dif_pos k.isLt]

/-! ## The blocks of `x` laid out by slot -/

/-- The staging buffer once every block has landed: slot `b`, row `i`, column `j` holds `x` at row `i`, column `1024 b + j`. -/
def XBof : Buf (Elt F) (bufM.view.loc (c : Thread nD τ)) :=
  fun (i : S16x1024x1024.Idx) => (XA : S1024x16384.Idx → Elt F .bf16)
    (ix2 (⟨(i 1).val, (i 1).isLt⟩ : Fin 1024) (⟨1024 * (i 0).val + (i 2).val, by
      have h0 : (i 0).val < 16 := (i 0).isLt
      have h2 : (i 2).val < 1024 := (i 2).isLt
      omega⟩ : Fin 16384))

theorem read_slot (b : Fin 16) : (slot b).view.read (Elt F) (XBof c XA) = (xblk b).view.read (Elt F) XA := by
  funext y
  rw [eq_ix2 y]
  have e : (slot b).view.emb (ix2 (y 0) (y 1)) = ix3 b (y 0) (y 1) := by
    show (Rect.unit (s := S16x1024x1024) (slotOff b) S1x1024x1024.size (slotOff_inb b)).emb (Shape.reshapeEquiv _ (ix2 (y 0) (y 1))) = _
    refine (congrArg _ (reshapeEquiv_ix2_1ab (a := 1024) (b := 1024) _ (y 0) (y 1))).trans ?_
    funext a; apply Fin.ext
    match a with
    | 0 => show b.val + 1 * 0 = b.val; omega
    | 1 => show 0 + 1 * (y 0).val = (y 0).val; omega
    | 2 => show 0 + 1 * (y 1).val = (y 1).val; omega
  show XBof c XA ((slot b).view.emb (ix2 (y 0) (y 1))) = XA ((xblk b).view.emb (ix2 (y 0) (y 1)))
  rw [e]
  show XA _ = XA _
  congr 1
  funext a; apply Fin.ext
  match a with
  | 0 => show (y 0).val = 0 + 1 * (y 0).val; omega
  | 1 => show 1024 * b.val + (y 1).val = 1024 * b.val + 1 * (y 1).val; omega

/-- What landed whole in a memref, whatever was under it, is held at any contents the memref reads the same of. -/
theorem landed_to {sp : Space} {s : Shape} {e : EltTy} (M : Memref sig .tc sp s e) (f G : Buf (Elt F) (M.view.loc (c : Thread nD τ)))
    (p : s.Idx → Elt F e) (L : List (View.Piece (Elt F) s e)) (h : M.view.read (Elt F) G = p) :
    (M.view.loc (c : Thread nD τ) ↦[M.view.set]{fullShare} M.view.writes (Elt F) f (⟨Rect.whole s, p⟩ :: L) : sProp 𝕄)
      ⊢ M.view.loc (c : Thread nD τ) ↦[M.view.set]{fullShare} G := by
  refine entails_of_eq (pointsTo_congr fun i hi => ?_)
  obtain ⟨z, -, rfl⟩ := Finset.mem_map.mp hi
  have h2 := congrFun ((View.read_writes_whole M.view (M.view.writes (Elt F) f L) p).trans h.symm) z
  exact (cast_bijective (congrArg (Elt F) M.view.elt_eq)).injective h2

set_option backward.proofsInPublic true in
set_option warn.classDefReducibility false in
/-- The inner loop's invariant: the slot, and the running maximum. -/
@[sl_loop] def loopInv3 (k2 : Fin k0_t2_loop.trips) (a0 : Vec F S16x1024 .bf16) :
    LoopInvTy_k0_t3 (F := F) Unit ℕ (UU nD τ) ℕ 𝒱₀ c none Set.univ xM (Memref.isWhole_whole _) wM (Memref.isWhole_whole _) arg2 harg2 ycM (Memref.isWhole_whole _) arg4 harg4 arg5 harg5 xcM (Memref.isWhole_whole _) arg7 harg7 bufM (Memref.isWhole_whole _) accM (Memref.isWhole_whole _) w0M (Memref.isWhole_whole _) w1M (Memref.isWhole_whole _) c0M (Memref.isWhole_whole _) c1M (Memref.isWhole_whole _) amM (Memref.isWhole_whole _) cc0_scratch7 cc0_scratch8 cc0_scratch9 cc0_scratch10 k2 where
  inv k _ := iprop(slotP c (i2 k2) (XBof c XA) ∗ ownsV c amM (AM3 c (XBof c XA) k2 a0 k))
  step k _ := by
    have hs0 : (bufM.access (Rect.unit (s := S16x1024x1024) (k0_off7 k2 k 0#32) S1x16x1024.size (k0_off7_inb k2 k 0))).set ⊆ (slot (i2 k2)).view.set := rows3_sub k2 k 0
    have hs1 : (bufM.access (Rect.unit (s := S16x1024x1024) (k0_off7 k2 k 16#32) S1x16x1024.size (k0_off7_inb k2 k 1))).set ⊆ (slot (i2 k2)).view.set := rows3_sub k2 k 1
    have hs2 : (bufM.access (Rect.unit (s := S16x1024x1024) (k0_off7 k2 k 32#32) S1x16x1024.size (k0_off7_inb k2 k 2))).set ⊆ (slot (i2 k2)).view.set := rows3_sub k2 k 2
    have hs3 : (bufM.access (Rect.unit (s := S16x1024x1024) (k0_off7 k2 k 48#32) S1x16x1024.size (k0_off7_inb k2 k 3))).set ⊆ (slot (i2 k2)).view.set := rows3_sub k2 k 3
    rw [show AM3 c (XBof c XA) k2 a0 (k.val + 1) = _ from AM3_succ c (XBof c XA) k2 a0 k]
    unfold ownsV
    iintro ⟨HS, ⟨%f, HA, %hf⟩⟩
    sl_unfold [k0_t3_body]
    sl_exec
    sl_step
    isplitl [HS]; · iexact HS
    iexists _
    isplitl [HA]; · iexact HA
    ipureintro
    refine (View.read_writes_full amM.view f inb_S16x1024_S16x1024_0_0 _ []).trans ?_
    rw [View.readAt_full amM.view f inb_S16x1024_S16x1024_0_0, hf]
    rfl

/-- After its transfer: the slot at the block, the block at home, the cell at zero. -/
def xDone (b : Fin 16) : sProp 𝕄 := iprop(slotP c b (XBof c XA) ∗ xHome c XA b ∗ xCell c b)

set_option backward.proofsInPublic true in
set_option warn.classDefReducibility false in
/-- The second loop's invariant: the blocks before `k` landed, the others on their way, and the running maximum. -/
@[sl_loop] def loopInv2 :
    LoopInvTy_k0_t2 (F := F) Unit ℕ (UU nD τ) ℕ 𝒱₀ c none Set.univ xM (Memref.isWhole_whole _) wM (Memref.isWhole_whole _) arg2 harg2 ycM (Memref.isWhole_whole _) arg4 harg4 arg5 harg5 xcM (Memref.isWhole_whole _) arg7 harg7 bufM (Memref.isWhole_whole _) accM (Memref.isWhole_whole _) w0M (Memref.isWhole_whole _) w1M (Memref.isWhole_whole _) c0M (Memref.isWhole_whole _) c1M (Memref.isWhole_whole _) amM (Memref.isWhole_whole _) cc0_scratch7 cc0_scratch8 cc0_scratch9 cc0_scratch10 where
  inv k _ := iprop(fam (xGoing c XA) (xDone c XA) k ∗ ownsV c amM (AM2 c (XBof c XA) k) ∗ owesP c)
  step k _ := by
    rw [show fam (xGoing c XA) (xDone c XA) k.val = _ from fam_here _ _ (i2 k), show fam (xGoing c XA) (xDone c XA) (k.val + 1) = _ from fam_next _ _ (i2 k),
      show AM2 c (XBof c XA) (k.val + 1) = _ from AM2_succ c (XBof c XA) k]
    generalize hR : famRest (xGoing c XA) (xDone c XA) (i2 k) = R
    iintro ⟨⟨HG, HR⟩, HA, ⟨%W, HW⟩⟩
    unfold xGoing xDone
    icases HG with ⟨%f, HF⟩
    unfold ownsV
    icases HA with ⟨%fa, HA, %hfa⟩
    sl_unfold [k0_t2_body]
    sl_exec
    ihave HS := (landed_to c (slot (i2 k)) _ (XBof c XA) (ReadAs.same.apply ((xblk (i2 k)).view.read (Elt F) XA)) [] (read_slot c XA (i2 k))) $$ HF_dst
    sl_exec
    sl_step
    isplitl [HS HF_src HF HR]
    · isplitl [HS HF_src HF]
      · isplitl [HS]; · iexact HS
        isplitl [HF_src]; · iexact HF_src
        iexact HF
      iexact HR
    isplitl [HA]
    · iexists _
      isplitl [HA]; · iexact HA
      ipureintro
      exact hL2.trans (congrArg (fun a => AM3 c (XBof c XA) k a k0_t3_loop.trips) hfa)
    iexists _; iexact HW
end Trip

end Cert.Proof.RunKernelIdeal

end
-- ==== Proof.Main.lean ====
/- The main loop: each block of `x` is turned into codes, multiplied with its block of weights and sent out. -/
module

public import proofs.«01_k».proof.Proof.Amax

@[expose] public section

noncomputable section

namespace Cert.Proof.RunKernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UU nD τ) ℕ

/-! ## The values -/

section Values
variable (c : Dev nD) (XA : Buf (Elt F) (xM.view.loc (c : Thread nD τ))) (WA : Buf (Elt F) (wM.view.loc (c : Thread nD τ))) (v65 : BitVec 32)

/-- Block `b` of `x` as the body loads it from the staging buffer. -/
def XBk (b : Fin 16) : Vec F S1x1024x1024 .bf16 :=
  bufM.view.readAt (Elt F) (Rect.unit (s := S16x1024x1024) (slotOff b) S1x1024x1024.size (slotOff_inb b)) (XBof c XA)

/-- The codes of block `n`. -/
def Qn (n : ℕ) : Vec F S1024x1024 .fp8e4m3 := k0_pay20 v65 (XBk c XA (Ring.bk 16 n))

/-- Row block `n` of the weights. -/
def Wn (n : ℕ) : Vec F S1024x3072 .fp8e4m3 := (wblk (Ring.bk 16 n)).view.read (Elt F) WA

/-- The accumulator after `n` blocks. -/
def ACC : ℕ → Vec F S1024x3072 .f32
  | 0 => k0_pay6
  | n + 1 => k0_pay4 (ACC n) (Qn c XA v65 n) (Wn c WA n)

/-- The whole array of codes. -/
def XCof : Buf (Elt F) (xcM.view.loc (c : Thread nD τ)) :=
  fun (i : S1024x16384.Idx) => (Qn c XA v65 ((i 1).val / 1024) : S1024x1024.Idx → Elt F .fp8e4m3)
    (ix2 (⟨(i 0).val, (i 0).isLt⟩ : Fin 1024) (⟨(i 1).val % 1024, Nat.mod_lt _ (by decide)⟩ : Fin 1024))

theorem read_cblk (b : Fin 16) : (cblk b).view.read (Elt F) (XCof c XA v65) = Qn c XA v65 b.val := by
  funext y
  have h1 : (y 1).val < 1024 := (y 1).isLt
  obtain ⟨E, hE⟩ : ∃ E : S1024x16384.Idx, E = (cblk b).view.emb y := ⟨_, rfl⟩
  have e1 : (E 1).val = 1024 * b.val + 1 * (y 1).val := by rw [hE]; rfl
  have e0 : (E 0).val = 0 + 1 * (y 0).val := by rw [hE]; rfl
  have q : (E 1).val / 1024 = b.val := by rw [e1]; omega
  show XCof c XA v65 ((cblk b).view.emb y) = _
  rw [← hE]
  unfold XCof
  rw [q]
  refine congrArg (Qn c XA v65 b.val : S1024x1024.Idx → Elt F .fp8e4m3) ?_
  funext a; apply Fin.ext
  match a with
  | 0 => show (E 0).val = (y 0).val; rw [e0]; omega
  | 1 => show (E 1).val % 1024 = (y 1).val; rw [e1]; omega

/-- A load of the staging buffer at block `n`, however the offset is spelt. -/
theorem load_blk {off : Fin 3 → ℕ} (hb) (b : Fin 16) (e : off = slotOff b) :
    bufM.view.readAt (Elt F) (Rect.unit (s := S16x1024x1024) off S1x1024x1024.size hb) (XBof c XA) = XBk c XA b := by
  subst e; rfl

theorem bk_of_lt {n : ℕ} (h : n < 16) : Ring.bk 16 n = (⟨n, h⟩ : Fin 16) := Fin.ext (Nat.mod_eq_of_lt h)
theorem bk_val {n : ℕ} (h : n < 16) : (Ring.bk 16 n : Fin 16).val = n := Nat.mod_eq_of_lt h
end Values

/-! ## The pieces -/

section Trip
variable (c : Dev nD) (XA : Buf (Elt F) (xM.view.loc (c : Thread nD τ))) (WA : Buf (Elt F) (wM.view.loc (c : Thread nD τ))) (v65 : BitVec 32)
  (arg2 : Memref sig .tc .smem S1x1 .f32) (harg2 : arg2.IsWhole)
  (arg4 : Memref sig .tc .smem S1x1 .f32) (harg4 : arg4.IsWhole)
  (arg5 : Memref sig .tc .smem S1x1 .f32) (harg5 : arg5.IsWhole)
  (arg7 : Memref sig .tc .smem S1x1 .f32) (harg7 : arg7.IsWhole)

abbrev wHome (b : Fin 16) : sProp 𝕄 := (wblk b).view.loc (c : Thread nD τ) ↦[(wblk b).view.set]{fullShare} WA
abbrev wCell (s : Fin 2) : sProp 𝕄 := semVal ((c : Thread nD τ), SemLoc.dma (wsm s).sem) 0
abbrev oCell (s : Fin 2) : sProp 𝕄 := semVal ((c : Thread nD τ), SemLoc.dma (osm s).sem) 0
abbrev w0P (f : Buf (Elt F) (w0M.view.loc (c : Thread nD τ))) : sProp 𝕄 := w0M.view.loc (c : Thread nD τ) ↦[w0M.view.set]{fullShare} f
abbrev w1P (f : Buf (Elt F) (w1M.view.loc (c : Thread nD τ))) : sProp 𝕄 := w1M.view.loc (c : Thread nD τ) ↦[w1M.view.set]{fullShare} f

/-- Block `b` of the weights on its way to the first buffer, which will read it. -/
abbrev wFlight0 (b : Fin 16) (f : Buf (Elt F) (w0M.view.loc (c : Thread nD τ))) : sProp 𝕄 :=
  Transfers.Flight countersEmb (c : Thread nD τ) (SemLoc.dma (wsm 0).sem) () 98304 iprop(w0P c f ∗ wHome c WA b)
/-- Block `b` of the weights on its way to the second buffer. -/
abbrev wFlight1 (b : Fin 16) (f : Buf (Elt F) (w1M.view.loc (c : Thread nD τ))) : sProp 𝕄 :=
  Transfers.Flight countersEmb (c : Thread nD τ) (SemLoc.dma (wsm 1).sem) () 98304 iprop(w1P c f ∗ wHome c WA b)

abbrev cHome (b : Fin 16) (f : Buf (Elt F) ((cblk b).view.loc (c : Thread nD τ))) : sProp 𝕄 :=
  (cblk b).view.loc (c : Thread nD τ) ↦[(cblk b).view.set]{fullShare} f
/-- Block `b` of the codes, done. -/
abbrev cDone (b : Fin 16) : sProp 𝕄 := cHome c b (XCof c XA v65)
abbrev c0P (q : PosShare TreeShare) (f : Buf (Elt F) (c0M.view.loc (c : Thread nD τ))) : sProp 𝕄 := c0M.view.loc (c : Thread nD τ) ↦[c0M.view.set]{q} f
abbrev c1P (q : PosShare TreeShare) (f : Buf (Elt F) (c1M.view.loc (c : Thread nD τ))) : sProp 𝕄 := c1M.view.loc (c : Thread nD τ) ↦[c1M.view.set]{q} f

/-- The second code buffer, half of it lent, on its way to block `b` of the codes. -/
abbrev cFlight (b : Fin 16) (f : Buf (Elt F) (c1M.view.loc (c : Thread nD τ))) (g : Buf (Elt F) ((cblk b).view.loc (c : Thread nD τ))) : sProp 𝕄 :=
  Transfers.Flight countersEmb (c : Thread nD τ) (SemLoc.dma (osm 1).sem) () 32768 iprop(cHome c b g ∗ c1P c fullShare.right f)

/-- The second code buffer before trip `k`: on its way to block `2k - 1`. -/
def cSecond (k : ℕ) : sProp 𝕄 :=
  if k = 0 then iprop((∃ f, c1P c fullShare f) ∗ oCell c 1)
  else iprop(∃ f g, cFlight c (Ring.bk 16 (2 * k - 1)) f g ∗ c1P c fullShare.left f ∗ ⌜c1M.view.read (Elt F) f = Qn c XA v65 (2 * k - 1)⌝
    ∗ ⌜(cblk (Ring.bk 16 (2 * k - 1))).view.read (Elt F) g = Qn c XA v65 (2 * k - 1)⌝)

/-- The weights before trip `k`: blocks `2k` and `2k + 1` on their way. -/
def wBoth (k : ℕ) : sProp 𝕄 :=
  if k < 8 then iprop((∃ f, wFlight0 c WA (Ring.bk 16 (2 * k)) f ∗ ⌜w0M.view.read (Elt F) f = Wn c WA (2 * k)⌝)
    ∗ (∃ f, wFlight1 c WA (Ring.bk 16 (2 * k + 1)) f ∗ ⌜w1M.view.read (Elt F) f = Wn c WA (2 * k + 1)⌝))
  else iprop(((∃ f, w0P c f) ∗ wCell c 0) ∗ (∃ f, w1P c f) ∗ wCell c 1)

/-- The blocks of the weights on their way before trip `k`. -/
def wOut (k : ℕ) : Finset (Fin 16) := Finset.univ.filter fun b => b.val = 2 * k ∨ b.val = 2 * k + 1
/-- The block of the codes on its way before trip `k`. -/
def cOut (k : ℕ) : Finset (Fin 16) := Finset.univ.filter fun b => b.val + 1 = 2 * k
/-- The blocks of the codes before trip `k`: those before `2k - 1` are done. -/
def cState (k : ℕ) (b : Fin 16) : sProp 𝕄 :=
  if b.val < 2 * k then cDone c XA v65 b else iprop(∃ f, cHome c b f)

/-- The members other than those of `A`. -/
def restBut (A : Finset (Fin 16)) (P : Fin 16 → sProp 𝕄) : sProp 𝕄 := bigSep (Finset.univ \ A) P

theorem take_one (P : Fin 16 → sProp 𝕄) (A : Finset (Fin 16)) (b : Fin 16) (h : b ∉ A) :
    restBut A P = iprop(P b ∗ restBut (insert b A) P) := by
  unfold restBut
  rw [show Finset.univ \ A = insert b (Finset.univ \ insert b A) by
    ext x; simp only [Finset.mem_sdiff, Finset.mem_univ, true_and, Finset.mem_insert, not_or]
    by_cases e : x = b
    · subst e; simp [h]
    · simp [e]]
  rw [bigSep_insert (by simp)]; rfl
theorem rest_all (A : Finset (Fin 16)) (P : Fin 16 → sProp 𝕄) (h : A = ∅) : restBut A P = bigSep Finset.univ P := by subst h; unfold restBut; rw [Finset.sdiff_empty]
theorem rest_congr {A B : Finset (Fin 16)} {P Q : Fin 16 → sProp 𝕄} (e : A = B) (h : ∀ b, b ∉ A → P b = Q b) : restBut A P = restBut B Q := by
  subst e; exact bigSep_congr fun b hb => h b (Finset.mem_sdiff.1 hb).2

theorem mem_wOut (k : ℕ) (b : Fin 16) : b ∈ wOut k ↔ (b.val = 2 * k ∨ b.val = 2 * k + 1) := by simp [wOut]
theorem mem_cOut (k : ℕ) (b : Fin 16) : b ∈ cOut k ↔ b.val + 1 = 2 * k := by simp [cOut]

theorem w_before (P : Fin 16 → sProp 𝕄) (k : ℕ) (h7 : k < 7) : restBut (wOut k) P = iprop(P (Ring.bk 16 (2 * k + 2)) ∗ P (Ring.bk 16 (2 * k + 3))
    ∗ restBut (insert (Ring.bk 16 (2 * k + 3)) (insert (Ring.bk 16 (2 * k + 2)) (wOut k))) P) := by
  have e2 := bk_val (n := 2 * k + 2) (by omega)
  have e3 := bk_val (n := 2 * k + 3) (by omega)
  rw [take_one P _ (Ring.bk 16 (2 * k + 2)) (by rw [mem_wOut]; omega), take_one P (insert _ _) (Ring.bk 16 (2 * k + 3))
    (by rw [Finset.mem_insert, mem_wOut, Fin.ext_iff]; omega)]
theorem w_after (P : Fin 16 → sProp 𝕄) (k : ℕ) (h7 : k < 7) : restBut (wOut (k + 1)) P = iprop(P (Ring.bk 16 (2 * k)) ∗ P (Ring.bk 16 (2 * k + 1))
    ∗ restBut (insert (Ring.bk 16 (2 * k + 3)) (insert (Ring.bk 16 (2 * k + 2)) (wOut k))) P) := by
  have e0 := bk_val (n := 2 * k) (by omega)
  have e1 := bk_val (n := 2 * k + 1) (by omega)
  have e2 := bk_val (n := 2 * k + 2) (by omega)
  have e3 := bk_val (n := 2 * k + 3) (by omega)
  rw [take_one P _ (Ring.bk 16 (2 * k)) (by rw [mem_wOut]; omega), take_one P (insert _ _) (Ring.bk 16 (2 * k + 1))
    (by rw [Finset.mem_insert, mem_wOut, Fin.ext_iff]; omega)]
  rw [rest_congr (B := insert (Ring.bk 16 (2 * k + 3)) (insert (Ring.bk 16 (2 * k + 2)) (wOut k))) (Q := P) _ (fun _ _ => rfl)]
  ext x; simp only [Finset.mem_insert, mem_wOut, Fin.ext_iff]; omega
theorem w_last (P : Fin 16 → sProp 𝕄) : restBut (wOut (7 + 1)) P = iprop(P (Ring.bk 16 (2 * 7)) ∗ P (Ring.bk 16 (2 * 7 + 1)) ∗ restBut (wOut 7) P) := by
  rw [take_one P _ (Ring.bk 16 (2 * 7)) (by decide), take_one P (insert _ _) (Ring.bk 16 (2 * 7 + 1)) (by decide)]
  rw [rest_congr (B := wOut 7) (Q := P) (by decide) (fun _ _ => rfl)]

theorem c_before (k : ℕ) (h8 : k < 8) : restBut (cOut k) (cState c XA v65 k) = iprop((∃ f, cHome c (Ring.bk 16 (2 * k)) f) ∗ (∃ f, cHome c (Ring.bk 16 (2 * k + 1)) f)
    ∗ restBut (insert (Ring.bk 16 (2 * k + 1)) (insert (Ring.bk 16 (2 * k)) (cOut k))) (cState c XA v65 k)) := by
  have e0 := bk_val (n := 2 * k) (by omega)
  have e1 := bk_val (n := 2 * k + 1) (by omega)
  rw [take_one _ _ (Ring.bk 16 (2 * k)) (by rw [mem_cOut]; omega), take_one _ (insert _ _) (Ring.bk 16 (2 * k + 1))
    (by rw [Finset.mem_insert, mem_cOut, Fin.ext_iff]; omega)]
  rw [show cState c XA v65 k (Ring.bk 16 (2 * k)) = _ from if_neg (by omega), show cState c XA v65 k (Ring.bk 16 (2 * k + 1)) = _ from if_neg (by omega)]
theorem c_after (k : ℕ) (h0 : 0 < k) (h8 : k < 8) : restBut (cOut (k + 1)) (cState c XA v65 (k + 1)) = iprop(cDone c XA v65 (Ring.bk 16 (2 * k - 1)) ∗ cDone c XA v65 (Ring.bk 16 (2 * k))
    ∗ restBut (insert (Ring.bk 16 (2 * k + 1)) (insert (Ring.bk 16 (2 * k)) (cOut k))) (cState c XA v65 k)) := by
  have e0 := bk_val (n := 2 * k) (by omega)
  have e1 := bk_val (n := 2 * k + 1) (by omega)
  have em := bk_val (n := 2 * k - 1) (by omega)
  rw [take_one _ _ (Ring.bk 16 (2 * k - 1)) (by rw [mem_cOut]; omega), take_one _ (insert _ _) (Ring.bk 16 (2 * k))
    (by rw [Finset.mem_insert, mem_cOut, Fin.ext_iff]; omega)]
  rw [show cState c XA v65 (k + 1) (Ring.bk 16 (2 * k)) = _ from if_pos (by omega), show cState c XA v65 (k + 1) (Ring.bk 16 (2 * k - 1)) = _ from if_pos (by omega)]
  rw [rest_congr (B := insert (Ring.bk 16 (2 * k + 1)) (insert (Ring.bk 16 (2 * k)) (cOut k))) (Q := cState c XA v65 k)]
  · ext x; simp only [Finset.mem_insert, mem_cOut, Fin.ext_iff]; omega
  · intro b hb
    simp only [Finset.mem_insert, mem_cOut, Fin.ext_iff, not_or] at hb
    unfold cState
    by_cases h : b.val < 2 * k
    · rw [if_pos h, if_pos (by omega)]
    · rw [if_neg h, if_neg (by omega)]
theorem c_first : restBut (cOut (0 + 1)) (cState c XA v65 (0 + 1)) = iprop(cDone c XA v65 (Ring.bk 16 (2 * 0))
    ∗ restBut (insert (Ring.bk 16 (2 * 0 + 1)) (insert (Ring.bk 16 (2 * 0)) (cOut 0))) (cState c XA v65 0)) := by
  rw [take_one _ _ (Ring.bk 16 (2 * 0)) (by decide)]
  rw [show cState c XA v65 (0 + 1) (Ring.bk 16 (2 * 0)) = _ from if_pos (by decide)]
  rw [rest_congr (B := insert (Ring.bk 16 (2 * 0 + 1)) (insert (Ring.bk 16 (2 * 0)) (cOut 0))) (Q := cState c XA v65 0)]
  · decide
  · intro b hb
    simp only [Finset.mem_insert, mem_cOut, Fin.ext_iff, not_or] at hb
    have e0 := bk_val (n := 2 * 0) (by omega)
    unfold cState
    rw [if_neg (by omega), if_neg (by omega)]

/-- A block of codes held at contents that read the codes. -/
theorem c_done (b : Fin 16) (g : Buf (Elt F) ((cblk b).view.loc (c : Thread nD τ))) (h : (cblk b).view.read (Elt F) g = Qn c XA v65 b.val) :
    cHome c b g ⊢ cDone c XA v65 b := by
  refine entails_of_eq (pointsTo_congr fun i hi => ?_)
  obtain ⟨z, -, rfl⟩ := Finset.mem_map.mp hi
  have h2 := congrFun (h.trans (read_cblk c XA v65 b).symm) z
  exact (cast_bijective (congrArg (Elt F) (cblk b).view.elt_eq)).injective h2

/-- The invariant of the main loop. -/
def inv4 (k : ℕ) : sProp 𝕄 :=
  iprop((bufM.view.loc (c : Thread nD τ) ↦[bufM.view.set]{fullShare} XBof c XA) ∗ ownsV c accM (ACC c XA WA v65 (2 * k))
    ∗ ownsV c c0M (Qn c XA v65 (min (2 * k) 15)) ∗ oCell c 0 ∗ cSecond c XA v65 k ∗ wBoth c WA k
    ∗ restBut (wOut k) (wHome c WA) ∗ restBut (cOut k) (cState c XA v65 k) ∗ owesP c)

set_option backward.proofsInPublic true in
set_option warn.classDefReducibility false in
set_option sl_exec.lendShare "H12 H13" in
/-- A trip in the middle of the loop. -/
theorem step_mid (k : Fin k0_t4_loop.trips) (h0 : 0 < k.val) (h7 : k.val < 7) (v66 c23 : BitVec 32) (u : Unit) :
    inv4 c XA WA v65 k.val
    ⊢ wp frame (wpE (defs₀ (F := F)) 𝒱₀ (c : Thread nD τ) none) Set.univ
      (k0_t4_body (F := F) xM (Memref.isWhole_whole _) wM (Memref.isWhole_whole _) arg2 harg2 ycM (Memref.isWhole_whole _) arg4 harg4 arg5 harg5 xcM (Memref.isWhole_whole _) arg7 harg7 bufM (Memref.isWhole_whole _) accM (Memref.isWhole_whole _) w0M (Memref.isWhole_whole _) w1M (Memref.isWhole_whole _) c0M (Memref.isWhole_whole _) c1M (Memref.isWhole_whole _) amM (Memref.isWhole_whole _) cc0_scratch7 cc0_scratch8 cc0_scratch9 cc0_scratch10 v65 v66 c23 (Scalar.ofBits .bf16 0x43E0#16) k u)
      (fun _ => inv4 c XA WA v65 (k.val + 1)) := by
  have c1 := (cond1_iff k).2 h0
  have c2 := (cond2_iff k).2 h7
  have c3 := cond3_true k
  have c4 := (cond4_iff k).2 h7
  have hoA : k0_off11 k 0#32 = slotOff (Ring.bk 16 (2 * k.val + 1)) := by rw [off11a, slotOff, bk_val (by omega)]
  have hoB : k0_off11 k 1#32 = slotOff (Ring.bk 16 (2 * k.val + 2)) := by rw [off11b, slotOff, bk_val (by omega), show min (2 * k.val + 2) 15 = 2 * k.val + 2 by omega]
  have hqA : k0_pay3 (k0_pay19 v65) (Scalar.ofBits .bf16 0x43E0#16) (bufM.view.readAt (Elt F) (Rect.unit (s := S16x1024x1024) (k0_off11 k 0#32) S1x1024x1024.size (k0_off11_inb k 0)).toLoadRect (XBof c XA)) = Qn c XA v65 (2 * k.val + 1) :=
    congrArg (k0_pay20 v65) (load_blk c XA _ _ hoA)
  unfold inv4
  rw [show cSecond c XA v65 k.val = _ from if_neg (by omega), show cSecond c XA v65 (k.val + 1) = _ from if_neg (by omega),
    show wBoth c WA k.val = _ from if_pos (by omega), show wBoth c WA (k.val + 1) = _ from if_pos (by omega),
    w_before _ k.val h7, w_after _ k.val h7, c_before _ _ _ k.val (by omega), c_after _ _ _ k.val h0 (by omega)]
  rw [show 2 * (k.val + 1) - 1 = 2 * k.val + 1 by omega, show min (2 * k.val) 15 = 2 * k.val by omega, show min (2 * (k.val + 1)) 15 = 2 * k.val + 2 by omega]
  generalize hRW : restBut (insert (Ring.bk 16 (2 * k.val + 3)) _) _ = RW
  generalize hRC : restBut (insert (Ring.bk 16 (2 * k.val + 1)) _) _ = RC
  unfold ownsV
  iintro ⟨HB, ⟨%fa, HA, %hfa⟩, ⟨%f12, H12, %h12⟩, HO0, ⟨%f13, %g, HF1, H13, %h13, %hg⟩, ⟨⟨%fw0, HW0, %hw0⟩, ⟨%fw1, HW1, %hw1⟩⟩,
    ⟨HN0, HN1, HRW⟩, ⟨⟨%g0, HC0⟩, ⟨%g1, HC1⟩, HRC⟩, ⟨%W, HW⟩⟩
  sl_unfold [k0_t4_body]
  sl_exec
  sl_step
  isplitl [HB]; · iexact HB
  isplitl [HA]
  · iexists _
    isplitl [HA]; · iexact HA
    ipureintro
    refine (View.read_writes_full accM.view fa inb_S1024x3072_S1024x3072_0_0 _ _).trans ?_
    rw [show 2 * (k.val + 1) = 2 * k.val + 1 + 1 by omega]
    unfold step_mid.sl.v238 step_mid.sl.v239
    rw [View.readAt_full w1M.view fw1 inb_S1024x3072_S1024x3072_0_0, hw1]
    unfold step_mid.sl.HA_1 step_mid.sl.H13_1
    rw [View.readCov_full accM.view inb_S1024x3072_S1024x3072_0_0 inb_S1024x3072_S1024x3072_0_0,
      View.readCov_full c1M.view inb_S1024x1024_S1024x1024_0_0 inb_S1024x1024_S1024x1024_0_0, hqA]
    unfold step_mid.sl.r step_mid.sl.r_1
    rw [View.readAt_full accM.view fa inb_S1024x3072_S1024x3072_0_0, hfa, View.readAt_full c0M.view f12 inb_S1024x1024_S1024x1024_0_0, h12,
      View.readAt_full w0M.view fw0 inb_S1024x3072_S1024x3072_0_0, hw0]
    rfl
  isplitl [H12]
  · iexists _
    isplitl [H12]; · iexact H12
    ipureintro
    refine (View.read_writes_full c0M.view f12 inb_S1024x1024_S1024x1024_0_0 _ _).trans ?_
    unfold step_mid.sl.r_2
    exact congrArg (k0_pay20 v65) (load_blk c XA _ _ hoB)
  isplitl [HO0]; · iexact HO0
  isplitl [HF1 H13]
  · iexists _, _
    isplitl [HF1]; · iexact HF1
    isplitl [H13]; · iexact H13
    isplitr
    · ipureintro
      unfold step_mid.sl.H13_1
      exact (View.read_writes_full c1M.view f13 inb_S1024x1024_S1024x1024_0_0 _ []).trans hqA
    ipureintro
    refine (View.read_writes_whole (cblk (Ring.bk 16 (2 * k.val + 1))).view g1 _).trans ?_
    unfold step_mid.sl.dma8_1 step_mid.sl.H13_1
    exact (View.read_writes_full c1M.view f13 inb_S1024x1024_S1024x1024_0_0 _ []).trans hqA
  isplitl [HW0 HW1]
  · isplitl [HW0]
    · iexists _
      isplitl [HW0]; · iexact HW0
      ipureintro
      refine (View.read_writes_whole w0M.view fw0 _).trans ?_
      unfold step_mid.sl.dma8
      rfl
    iexists _
    isplitl [HW1]; · iexact HW1
    ipureintro
    refine (View.read_writes_whole w1M.view fw1 _).trans ?_
    unfold step_mid.sl.dma16
    rfl
  isplitl [HW0_src HW1_src HRW]
  · isplitl [HW0_src]; · iexact HW0_src
    isplitl [HW1_src]; · iexact HW1_src
    iexact HRW
  isplitr [HW]
  · ihave HD1 := (c_done c XA v65 (Ring.bk 16 (2 * k.val - 1)) _ (hg.trans (by rw [bk_val (by omega)]))) $$ HF1_dst
    isplitl [HD1]; · iexact HD1
    ihave HD2 := (c_done c XA v65 (Ring.bk 16 (2 * k.val)) _ (by
      refine (View.read_writes_whole (cblk (Ring.bk 16 (2 * k.val))).view g0 _).trans ?_
      unfold step_mid.sl.dma0
      exact h12.trans (by rw [bk_val (by omega)]))) $$ HC0
    isplitl [HD2]; · iexact HD2
    iexact HRC
  iexists _; iexact HW
set_option backward.proofsInPublic true in
set_option warn.classDefReducibility false in
set_option sl_exec.lendShare "H12 H13" in
/-- The first trip. -/
theorem step_first (k : Fin k0_t4_loop.trips) (h0 : k.val = 0) (v66 c23 : BitVec 32) (u : Unit) :
    inv4 c XA WA v65 k.val
    ⊢ wp frame (wpE (defs₀ (F := F)) 𝒱₀ (c : Thread nD τ) none) Set.univ
      (k0_t4_body (F := F) xM (Memref.isWhole_whole _) wM (Memref.isWhole_whole _) arg2 harg2 ycM (Memref.isWhole_whole _) arg4 harg4 arg5 harg5 xcM (Memref.isWhole_whole _) arg7 harg7 bufM (Memref.isWhole_whole _) accM (Memref.isWhole_whole _) w0M (Memref.isWhole_whole _) w1M (Memref.isWhole_whole _) c0M (Memref.isWhole_whole _) c1M (Memref.isWhole_whole _) amM (Memref.isWhole_whole _) cc0_scratch7 cc0_scratch8 cc0_scratch9 cc0_scratch10 v65 v66 c23 (Scalar.ofBits .bf16 0x43E0#16) k u)
      (fun _ => inv4 c XA WA v65 (k.val + 1)) := by
  have h7 : k.val < 7 := by omega
  have c1 : ¬ k0_cond1 k = 1#1 := fun h => absurd ((cond1_iff k).1 h) (by omega)
  have c2 := (cond2_iff k).2 h7
  have c3 := cond3_true k
  have c4 := (cond4_iff k).2 h7
  have hoA : k0_off11 k 0#32 = slotOff (Ring.bk 16 (2 * k.val + 1)) := by rw [off11a, slotOff, bk_val (by omega)]
  have hoB : k0_off11 k 1#32 = slotOff (Ring.bk 16 (2 * k.val + 2)) := by rw [off11b, slotOff, bk_val (by omega), show min (2 * k.val + 2) 15 = 2 * k.val + 2 by omega]
  have hqA : k0_pay3 (k0_pay19 v65) (Scalar.ofBits .bf16 0x43E0#16) (bufM.view.readAt (Elt F) (Rect.unit (s := S16x1024x1024) (k0_off11 k 0#32) S1x1024x1024.size (k0_off11_inb k 0)).toLoadRect (XBof c XA)) = Qn c XA v65 (2 * k.val + 1) :=
    congrArg (k0_pay20 v65) (load_blk c XA _ _ hoA)
  unfold inv4
  rw [show cSecond c XA v65 k.val = _ from if_pos h0, show cSecond c XA v65 (k.val + 1) = _ from if_neg (by omega),
    show wBoth c WA k.val = _ from if_pos (by omega), show wBoth c WA (k.val + 1) = _ from if_pos (by omega),
    w_before _ k.val h7, w_after _ k.val h7, c_before _ _ _ k.val (by omega), show restBut (cOut (k.val + 1)) (cState c XA v65 (k.val + 1)) = iprop(cDone c XA v65 (Ring.bk 16 (2 * k.val)) ∗ restBut (insert (Ring.bk 16 (2 * k.val + 1)) (insert (Ring.bk 16 (2 * k.val)) (cOut k.val))) (cState c XA v65 k.val)) from by rw [h0]; exact c_first c XA v65]
  rw [show 2 * (k.val + 1) - 1 = 2 * k.val + 1 by omega, show min (2 * k.val) 15 = 2 * k.val by omega, show min (2 * (k.val + 1)) 15 = 2 * k.val + 2 by omega]
  generalize hRW : restBut (insert (Ring.bk 16 (2 * k.val + 3)) _) _ = RW
  generalize hRC : restBut (insert (Ring.bk 16 (2 * k.val + 1)) _) _ = RC
  unfold ownsV
  iintro ⟨HB, ⟨%fa, HA, %hfa⟩, ⟨%f12, H12, %h12⟩, HO0, ⟨⟨%f13, H13⟩, HF1⟩, ⟨⟨%fw0, HW0, %hw0⟩, ⟨%fw1, HW1, %hw1⟩⟩,
    ⟨HN0, HN1, HRW⟩, ⟨⟨%g0, HC0⟩, ⟨%g1, HC1⟩, HRC⟩, ⟨%W, HW⟩⟩
  sl_unfold [k0_t4_body]
  sl_exec
  sl_step
  isplitl [HB]; · iexact HB
  isplitl [HA]
  · iexists _
    isplitl [HA]; · iexact HA
    ipureintro
    refine (View.read_writes_full accM.view fa inb_S1024x3072_S1024x3072_0_0 _ _).trans ?_
    rw [show 2 * (k.val + 1) = 2 * k.val + 1 + 1 by omega]
    unfold step_first.sl.v238 step_first.sl.v239
    rw [View.readAt_full w1M.view fw1 inb_S1024x3072_S1024x3072_0_0, hw1]
    unfold step_first.sl.HA_1 step_first.sl.H13_1
    rw [View.readCov_full accM.view inb_S1024x3072_S1024x3072_0_0 inb_S1024x3072_S1024x3072_0_0,
      View.readCov_full c1M.view inb_S1024x1024_S1024x1024_0_0 inb_S1024x1024_S1024x1024_0_0, hqA]
    unfold step_first.sl.r step_first.sl.r_1
    rw [View.readAt_full accM.view fa inb_S1024x3072_S1024x3072_0_0, hfa, View.readAt_full c0M.view f12 inb_S1024x1024_S1024x1024_0_0, h12,
      View.readAt_full w0M.view fw0 inb_S1024x3072_S1024x3072_0_0, hw0]
    rfl
  isplitl [H12]
  · iexists _
    isplitl [H12]; · iexact H12
    ipureintro
    refine (View.read_writes_full c0M.view f12 inb_S1024x1024_S1024x1024_0_0 _ _).trans ?_
    unfold step_first.sl.r_2
    exact congrArg (k0_pay20 v65) (load_blk c XA _ _ hoB)
  isplitl [HO0]; · iexact HO0
  isplitl [HF1 H13]
  · iexists _, _
    isplitl [HF1]; · iexact HF1
    isplitl [H13]; · iexact H13
    isplitr
    · ipureintro
      unfold step_first.sl.H13_1
      exact (View.read_writes_full c1M.view f13 inb_S1024x1024_S1024x1024_0_0 _ []).trans hqA
    ipureintro
    refine (View.read_writes_whole (cblk (Ring.bk 16 (2 * k.val + 1))).view g1 _).trans ?_
    unfold step_first.sl.dma8_1 step_first.sl.H13_1
    exact (View.read_writes_full c1M.view f13 inb_S1024x1024_S1024x1024_0_0 _ []).trans hqA
  isplitl [HW0 HW1]
  · isplitl [HW0]
    · iexists _
      isplitl [HW0]; · iexact HW0
      ipureintro
      refine (View.read_writes_whole w0M.view fw0 _).trans ?_
      unfold step_first.sl.dma8
      rfl
    iexists _
    isplitl [HW1]; · iexact HW1
    ipureintro
    refine (View.read_writes_whole w1M.view fw1 _).trans ?_
    unfold step_first.sl.dma16
    rfl
  isplitl [HW0_src HW1_src HRW]
  · isplitl [HW0_src]; · iexact HW0_src
    isplitl [HW1_src]; · iexact HW1_src
    iexact HRW
  isplitr [HW]
  · ihave HD2 := (c_done c XA v65 (Ring.bk 16 (2 * k.val)) _ (by
      refine (View.read_writes_whole (cblk (Ring.bk 16 (2 * k.val))).view g0 _).trans ?_
      unfold step_first.sl.dma0
      exact h12.trans (by rw [bk_val (by omega)]))) $$ HC0
    isplitl [HD2]; · iexact HD2
    iexact HRC
  iexists _; iexact HW
set_option backward.proofsInPublic true in
set_option warn.classDefReducibility false in
set_option sl_exec.lendShare "H12 H13" in
/-- The last trip. -/
theorem step_last (k : Fin k0_t4_loop.trips) (h7 : k.val = 7) (v66 c23 : BitVec 32) (u : Unit) :
    inv4 c XA WA v65 k.val
    ⊢ wp frame (wpE (defs₀ (F := F)) 𝒱₀ (c : Thread nD τ) none) Set.univ
      (k0_t4_body (F := F) xM (Memref.isWhole_whole _) wM (Memref.isWhole_whole _) arg2 harg2 ycM (Memref.isWhole_whole _) arg4 harg4 arg5 harg5 xcM (Memref.isWhole_whole _) arg7 harg7 bufM (Memref.isWhole_whole _) accM (Memref.isWhole_whole _) w0M (Memref.isWhole_whole _) w1M (Memref.isWhole_whole _) c0M (Memref.isWhole_whole _) c1M (Memref.isWhole_whole _) amM (Memref.isWhole_whole _) cc0_scratch7 cc0_scratch8 cc0_scratch9 cc0_scratch10 v65 v66 c23 (Scalar.ofBits .bf16 0x43E0#16) k u)
      (fun _ => inv4 c XA WA v65 (k.val + 1)) := by
  have h0 : 0 < k.val := by omega
  have c1 := (cond1_iff k).2 h0
  have c2 : ¬ k0_cond2 k = 1#1 := fun h => absurd ((cond2_iff k).1 h) (by omega)
  have c3 := cond3_true k
  have c4 : ¬ k0_cond4 k = 1#1 := fun h => absurd ((cond4_iff k).1 h) (by omega)
  have hoA : k0_off11 k 0#32 = slotOff (Ring.bk 16 (2 * k.val + 1)) := by rw [off11a, slotOff, bk_val (by omega)]
  have hoB : k0_off11 k 1#32 = slotOff (Ring.bk 16 15) := by rw [off11b, slotOff, bk_val (by omega), show min (2 * k.val + 2) 15 = 15 by omega]
  have hqA : k0_pay3 (k0_pay19 v65) (Scalar.ofBits .bf16 0x43E0#16) (bufM.view.readAt (Elt F) (Rect.unit (s := S16x1024x1024) (k0_off11 k 0#32) S1x1024x1024.size (k0_off11_inb k 0)).toLoadRect (XBof c XA)) = Qn c XA v65 (2 * k.val + 1) :=
    congrArg (k0_pay20 v65) (load_blk c XA _ _ hoA)
  unfold inv4
  rw [show cSecond c XA v65 k.val = _ from if_neg (by omega), show cSecond c XA v65 (k.val + 1) = _ from if_neg (by omega),
    show wBoth c WA k.val = _ from if_pos (by omega), show wBoth c WA (k.val + 1) = _ from if_neg (by omega),
    show restBut (wOut (k.val + 1)) (wHome c WA) = iprop(wHome c WA (Ring.bk 16 (2 * k.val)) ∗ wHome c WA (Ring.bk 16 (2 * k.val + 1)) ∗ restBut (wOut k.val) (wHome c WA)) from by rw [h7]; exact w_last _, c_before _ _ _ k.val (by omega), c_after _ _ _ k.val h0 (by omega)]
  rw [show 2 * (k.val + 1) - 1 = 2 * k.val + 1 by omega, show min (2 * k.val) 15 = 2 * k.val by omega, show min (2 * (k.val + 1)) 15 = 15 by omega]
  generalize hRW : restBut (wOut k.val) _ = RW
  generalize hRC : restBut (insert (Ring.bk 16 (2 * k.val + 1)) _) _ = RC
  unfold ownsV
  iintro ⟨HB, ⟨%fa, HA, %hfa⟩, ⟨%f12, H12, %h12⟩, HO0, ⟨%f13, %g, HF1, H13, %h13, %hg⟩, ⟨⟨%fw0, HW0, %hw0⟩, ⟨%fw1, HW1, %hw1⟩⟩,
    HRW, ⟨⟨%g0, HC0⟩, ⟨%g1, HC1⟩, HRC⟩, ⟨%W, HW⟩⟩
  sl_unfold [k0_t4_body]
  sl_exec
  sl_step
  isplitl [HB]; · iexact HB
  isplitl [HA]
  · iexists _
    isplitl [HA]; · iexact HA
    ipureintro
    refine (View.read_writes_full accM.view fa inb_S1024x3072_S1024x3072_0_0 _ _).trans ?_
    rw [show 2 * (k.val + 1) = 2 * k.val + 1 + 1 by omega]
    unfold step_last.sl.v238 step_last.sl.v239
    rw [View.readAt_full w1M.view fw1 inb_S1024x3072_S1024x3072_0_0, hw1]
    unfold step_last.sl.HA_1 step_last.sl.H13_1
    rw [View.readCov_full accM.view inb_S1024x3072_S1024x3072_0_0 inb_S1024x3072_S1024x3072_0_0,
      View.readCov_full c1M.view inb_S1024x1024_S1024x1024_0_0 inb_S1024x1024_S1024x1024_0_0, hqA]
    unfold step_last.sl.r step_last.sl.r_1
    rw [View.readAt_full accM.view fa inb_S1024x3072_S1024x3072_0_0, hfa, View.readAt_full c0M.view f12 inb_S1024x1024_S1024x1024_0_0, h12,
      View.readAt_full w0M.view fw0 inb_S1024x3072_S1024x3072_0_0, hw0]
    rfl
  isplitl [H12]
  · iexists _
    isplitl [H12]; · iexact H12
    ipureintro
    refine (View.read_writes_full c0M.view f12 inb_S1024x1024_S1024x1024_0_0 _ _).trans ?_
    unfold step_last.sl.r_2
    exact congrArg (k0_pay20 v65) (load_blk c XA _ _ hoB)
  isplitl [HO0]; · iexact HO0
  isplitl [HF1 H13]
  · iexists _, _
    isplitl [HF1]; · iexact HF1
    isplitl [H13]; · iexact H13
    isplitr
    · ipureintro
      unfold step_last.sl.H13_1
      exact (View.read_writes_full c1M.view f13 inb_S1024x1024_S1024x1024_0_0 _ []).trans hqA
    ipureintro
    refine (View.read_writes_whole (cblk (Ring.bk 16 (2 * k.val + 1))).view g1 _).trans ?_
    unfold step_last.sl.dma8 step_last.sl.H13_1
    exact (View.read_writes_full c1M.view f13 inb_S1024x1024_S1024x1024_0_0 _ []).trans hqA
  isplitl [HW0 HW1 HW0_dst HW1_dst]
  · isplitl [HW0 HW0_dst]
    · isplitl [HW0_dst]; · iexists _; iexact HW0_dst
      iexact HW0
    isplitl [HW1_dst]; · iexists _; iexact HW1_dst
    iexact HW1
  isplitl [HW0_src HW1_src HRW]
  · isplitl [HW0_src]; · iexact HW0_src
    isplitl [HW1_src]; · iexact HW1_src
    iexact HRW
  isplitr [HW]
  · ihave HD1 := (c_done c XA v65 (Ring.bk 16 (2 * k.val - 1)) _ (hg.trans (by rw [bk_val (by omega)]))) $$ HF1_dst
    isplitl [HD1]; · iexact HD1
    ihave HD2 := (c_done c XA v65 (Ring.bk 16 (2 * k.val)) _ (by
      refine (View.read_writes_whole (cblk (Ring.bk 16 (2 * k.val))).view g0 _).trans ?_
      unfold step_last.sl.dma0
      exact h12.trans (by rw [bk_val (by omega)]))) $$ HC0
    isplitl [HD2]; · iexact HD2
    iexact HRC
  iexists _; iexact HW
set_option backward.proofsInPublic true in
set_option warn.classDefReducibility false in
set_option maxHeartbeats 4000000 in
/-- The main loop's invariant. -/
@[sl_loop] def loopInv4 (v66 c23 : BitVec 32) :
    LoopInvTy_k0_t4 (F := F) Unit ℕ (UU nD τ) ℕ 𝒱₀ c none Set.univ xM (Memref.isWhole_whole _) wM (Memref.isWhole_whole _) arg2 harg2 ycM (Memref.isWhole_whole _) arg4 harg4 arg5 harg5 xcM (Memref.isWhole_whole _) arg7 harg7 bufM (Memref.isWhole_whole _) accM (Memref.isWhole_whole _) w0M (Memref.isWhole_whole _) w1M (Memref.isWhole_whole _) c0M (Memref.isWhole_whole _) c1M (Memref.isWhole_whole _) amM (Memref.isWhole_whole _) cc0_scratch7 cc0_scratch8 cc0_scratch9 cc0_scratch10 v65 v66 c23 (Scalar.ofBits .bf16 0x43E0#16) where
  inv k _ := inv4 c XA WA v65 k
  step k u := by
    have h8 := t4_lt k
    by_cases h0 : k.val = 0
    · exact step_first c XA WA v65 arg2 harg2 arg4 harg4 arg5 harg5 arg7 harg7 k h0 v66 c23 u
    by_cases h7 : k.val < 7
    · exact step_mid c XA WA v65 arg2 harg2 arg4 harg4 arg5 harg5 arg7 harg7 k (by omega) h7 v66 c23 u
    · exact step_last c XA WA v65 arg2 harg2 arg4 harg4 arg5 harg5 arg7 harg7 k (by omega) v66 c23 u
end Trip
end Cert.Proof.RunKernelIdeal

end
-- ==== Proof.Blocks.lean ====
/- The buffers whole and block by block. -/
module

public import proofs.«01_k».proof.Proof.Main

@[expose] public section

noncomputable section

namespace Cert.Proof.RunKernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UU nD τ) ℕ

/-! ## Element sets -/

abbrev XI (b : Fin 16) : Finset S1024x16384.Idx := (Rect.unit (s := S1024x16384) (colOff b) S1024x1024.size (colOff_inb b)).set
abbrev WI (b : Fin 16) : Finset S16384x3072.Idx := (Rect.unit (s := S16384x3072) (rowOff b) S1024x3072.size (rowOff_inb b)).set
abbrev SI (b : Fin 16) : Finset S16x1024x1024.Idx := (Rect.unit (s := S16x1024x1024) (slotOff b) S1x1024x1024.size (slotOff_inb b)).set

theorem xblk_set (b : Fin 16) : (xblk b : Memref sig .tc .hbm _ _).view.set = XI b := View.set_slice_whole _ _
theorem cblk_set (b : Fin 16) : (cblk b : Memref sig .tc .hbm _ _).view.set = XI b := View.set_slice_whole _ _
theorem wblk_set (b : Fin 16) : (wblk b : Memref sig .tc .hbm _ _).view.set = WI b := View.set_slice_whole _ _

theorem XI_disjoint : ∀ b b' : Fin 16, b ≠ b' → Disjoint (XI b) (XI b') :=
  Ring.lead_disjoint (s := S1024x16384) 1 1024 colOff S1024x1024.size colOff_inb (fun _ => rfl) rfl
theorem XI_cover : (Finset.univ : Finset (Fin 16)).biUnion XI = Finset.univ :=
  Ring.lead_cover (s := S1024x16384) 1 1024 colOff S1024x1024.size colOff_inb (fun _ => rfl) (by intro b a h; fin_cases a <;> first | rfl | exact absurd rfl h) rfl
    (by intro a h; fin_cases a <;> first | rfl | exact absurd rfl h) rfl
theorem WI_disjoint : ∀ b b' : Fin 16, b ≠ b' → Disjoint (WI b) (WI b') :=
  Ring.lead_disjoint (s := S16384x3072) 0 1024 rowOff S1024x3072.size rowOff_inb (fun _ => rfl) rfl
theorem WI_cover : (Finset.univ : Finset (Fin 16)).biUnion WI = Finset.univ :=
  Ring.lead_cover (s := S16384x3072) 0 1024 rowOff S1024x3072.size rowOff_inb (fun _ => rfl) (by intro b a h; fin_cases a <;> first | rfl | exact absurd rfl h) rfl
    (by intro a h; fin_cases a <;> first | rfl | exact absurd rfl h) rfl
theorem SI_disjoint : ∀ b b' : Fin 16, b ≠ b' → Disjoint (SI b) (SI b') :=
  Ring.lead_disjoint (s := S16x1024x1024) 0 1 slotOff S1x1024x1024.size slotOff_inb (fun b => (Nat.one_mul _).symm) rfl
theorem SI_cover : (Finset.univ : Finset (Fin 16)).biUnion SI = Finset.univ :=
  Ring.lead_cover (s := S16x1024x1024) 0 1 slotOff S1x1024x1024.size slotOff_inb (fun b => (Nat.one_mul _).symm) (by intro b a h; fin_cases a <;> first | rfl | exact absurd rfl h) rfl
    (by intro a h; fin_cases a <;> first | rfl | exact absurd rfl h) rfl

section Wholes
variable (c : Dev nD) (XA : Buf (Elt F) (xM.view.loc (c : Thread nD τ))) (WA : Buf (Elt F) (wM.view.loc (c : Thread nD τ))) (v65 : BitVec 32)

/-- `x` whole is its column blocks; -/
theorem x_whole : ((c : Thread nD τ).loc main_v0 ↦{fullShare} XA : sProp 𝕄) = bigSep Finset.univ (xHome c XA) := by
  rw [Ring.pointsTo_blocks (ℓ := (c : Thread nD τ).loc main_v0) XI XI_disjoint XI_cover]
  exact bigSep_congr fun b _ => by rw [← xblk_set]; rfl
/-- the weights whole, their row blocks; -/
theorem w_whole : ((c : Thread nD τ).loc main_arg1 ↦{fullShare} WA : sProp 𝕄) = bigSep Finset.univ (wHome c WA) := by
  rw [Ring.pointsTo_blocks (ℓ := (c : Thread nD τ).loc main_arg1) WI WI_disjoint WI_cover]
  exact bigSep_congr fun b _ => by rw [← wblk_set]; rfl
/-- the codes whole, their column blocks; -/
theorem c_whole (f : Buf (Elt F) (xcM.view.loc (c : Thread nD τ))) :
    ((c : Thread nD τ).loc main_v2_3 ↦{fullShare} f : sProp 𝕄) = bigSep Finset.univ (fun b => cHome c b f) := by
  rw [Ring.pointsTo_blocks (ℓ := (c : Thread nD τ).loc main_v2_3) XI XI_disjoint XI_cover]
  exact bigSep_congr fun b _ => by rw [← cblk_set]; rfl
/-- the staging buffer whole, its slots. -/
theorem buf_whole (f : Buf (Elt F) (bufM.view.loc (c : Thread nD τ))) :
    ((c : Thread nD τ).loc cc0_scratch0 ↦{fullShare} f : sProp 𝕄) = bigSep Finset.univ (fun b => slotP c b f) := by
  rw [Ring.pointsTo_blocks (ℓ := (c : Thread nD τ).loc cc0_scratch0) SI SI_disjoint SI_cover]
  exact bigSep_congr fun b _ => by rw [show SI b = (slot b).view.set from (slot_set b).symm]; rfl
/-- A whole buffer's elements are all of them. -/
theorem buf_all (f : Buf (Elt F) (bufM.view.loc (c : Thread nD τ))) :
    ((c : Thread nD τ).loc cc0_scratch0 ↦{fullShare} f : sProp 𝕄) = (bufM.view.loc (c : Thread nD τ) ↦[bufM.view.set]{fullShare} f) := by
  rw [show bufM.view.set = Finset.univ from View.set_whole _]
end Wholes
end Cert.Proof.RunKernelIdeal

end
-- ==== Proof.Part3.lean ====
/- The first part of the body: the blocks of `x` arrive, and their largest magnitudes are taken. -/
module

public import proofs.«01_k».proof.Proof.Blocks

@[expose] public section

noncomputable section

namespace Cert.Proof.RunKernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UU nD τ) ℕ

section Body
variable (c : Dev nD) (XA : Buf (Elt F) (xM.view.loc (c : Thread nD τ))) (WA : Buf (Elt F) (wM.view.loc (c : Thread nD τ)))
  (arg2 : Memref sig .tc .smem S1x1 .f32) (harg2 : arg2.IsWhole)
  (arg4 : Memref sig .tc .smem S1x1 .f32) (harg4 : arg4.IsWhole)
  (arg5 : Memref sig .tc .smem S1x1 .f32) (harg5 : arg5.IsWhole)
  (arg7 : Memref sig .tc .smem S1x1 .f32) (harg7 : arg7.IsWhole)

abbrev ownA {sp : Space} {s : Shape} {e : EltTy} (M : Memref sig .tc sp s e) (f : Buf (Elt F) (M.view.loc (c : Thread nD τ))) : sProp 𝕄 :=
  M.view.loc (c : Thread nD τ) ↦[M.view.set]{fullShare} f
abbrev yCell : sProp 𝕄 := semVal ((c : Thread nD τ), SemLoc.dma cc0_scratch10.sem) 0

/-- What the first part hands on, from the table of largest magnitudes. -/
def S3 (v16 : Vec F S16x1024 .bf16) : Σ' (v22 : F .f32) (v23 : BitVec 32), BitVec 1 :=
  ⟨k0_pay9 v16, Scalar.addi 0#32 128#32, Scalar.cmpf .ole (k0_pay10 (F := F)) (k0_pay9 v16)⟩

/-- After the second loop: the staging buffer whole, the blocks of `x` home, the cells at zero. -/
theorem loop2_exit : (bigSep Finset.univ (fun b : Fin 16 => if b.val < Scf.trips k0_t2_loop.lb k0_t2_loop.ub k0_t2_loop.st then xDone c XA b else xGoing c XA b) : sProp 𝕄)
    ⊢ iprop(ownA c bufM (XBof c XA) ∗ bigSep Finset.univ (xHome c XA) ∗ bigSep Finset.univ (xCell c)) := by
  have e : (bigSep Finset.univ (fun b : Fin 16 => if b.val < Scf.trips k0_t2_loop.lb k0_t2_loop.ub k0_t2_loop.st then xDone c XA b else xGoing c XA b) : sProp 𝕄)
      = bigSep Finset.univ (fun b : Fin 16 => iprop(slotP c b (XBof c XA) ∗ xHome c XA b ∗ xCell c b)) :=
    bigSep_congr fun b _ => by
      rw [show Scf.trips k0_t2_loop.lb k0_t2_loop.ub k0_t2_loop.st = 16 from t2_trips, if_pos b.isLt]; rfl
  refine (entails_of_eq e).trans ((entails_of_eq (bigSep_sep' Finset.univ (fun b => slotP c b (XBof c XA)) (fun b => iprop(xHome c XA b ∗ xCell c b)))).trans ?_)
  iintro ⟨H, H2⟩
  ihave H2 := (entails_of_eq (bigSep_sep' Finset.univ (xHome c XA) (xCell c))) $$ H2
  ihave H := (entails_of_eq ((buf_whole c (XBof c XA)).symm.trans (buf_all c (XBof c XA)))) $$ H
  isplitl [H]; · iexact H
  iexact H2

set_option maxHeartbeats 4000000 in
/-- The first part of the body. -/
theorem part3Run (facc fw0 fw1 fmx W) (Q : (Σ' (v22 : F .f32) (v23 : BitVec 32), BitVec 1) → sProp 𝕄) :
    iprop((bigSep Finset.univ (xIdle c XA) ∗ restBut ∅ (wHome c WA)
      ∗ ownA c accM facc ∗ ownA c w0M fw0 ∗ ownA c w1M fw1 ∗ ownA c amM fmx
      ∗ wCell c 0 ∗ wCell c 1 ∗ owes (c : Thread nD τ) 0 W)
      ∗ ((ownA c bufM (XBof c XA) ∗ bigSep Finset.univ (xHome c XA) ∗ bigSep Finset.univ (xCell c)
        ∗ ownsV c accM (k0_pay6 (F := F)) ∗ wBoth c WA 0 ∗ restBut (wOut 0) (wHome c WA) ∗ (∃ f, ownA c amM f) ∗ owesP c) -∗ Q (S3 (AM2 c (XBof c XA) 16))))
    ⊢ wp frame (wpE (defs₀ (F := F)) 𝒱₀ (c : Thread nD τ) none) Set.univ
      (k0_part3 xM (Memref.isWhole_whole _) wM (Memref.isWhole_whole _) arg2 harg2 ycM (Memref.isWhole_whole _) arg4 harg4 arg5 harg5 xcM (Memref.isWhole_whole _) arg7 harg7 bufM (Memref.isWhole_whole _) accM (Memref.isWhole_whole _) w0M (Memref.isWhole_whole _) w1M (Memref.isWhole_whole _) c0M (Memref.isWhole_whole _) c1M (Memref.isWhole_whole _) amM (Memref.isWhole_whole _) cc0_scratch7 cc0_scratch8 cc0_scratch9 cc0_scratch10) Q := by
  have hM0 : amM.view.read (Elt F) (amM.view.writes (Elt F) amM.view.junk [⟨Rect.unit (s := S16x1024) ![0, 0] S16x1024.size inb_S16x1024_S16x1024_0_0, k0_pay7⟩]) = AM2 c (XBof c XA) 0 :=
    View.read_writes_full amM.view amM.view.junk inb_S16x1024_S16x1024_0_0 _ []
  rw [← fam_zero (xIdle c XA) (xGoing c XA), take_one _ _ 0 (by decide), take_one _ (insert _ _) 1 (by decide),
    rest_congr (A := insert 1 (insert 0 ∅)) (B := wOut 0) (Q := wHome c WA) (by decide) (fun _ _ => rfl)]
  unfold fam
  generalize hRW : restBut (wOut 0) _ = RW
  iintro ⟨⟨HX, ⟨HW0, HW1, HRW⟩, HA, HP0, HP1, HM, HS0, HS1, HW⟩, HQ⟩
  sl_exec
  sl_step
  ihave HX2 := (loop2_exit c XA) $$ HX
  icases HX2 with ⟨HB, HXH, HXC⟩
  rw [show (⟨k0_pay9 (View.readAt (Elt F) amM.view (Rect.unit (s := S16x1024) ![0, 0] S16x1024.size inb_S16x1024_S16x1024_0_0).toLoadRect fL1), ⟨128#32, part3Run.sl.v26 c fL1⟩⟩
      : Σ' (v22 : F .f32) (v23 : BitVec 32), BitVec 1) = S3 (AM2 c (XBof c XA) 16) by
    unfold part3Run.sl.v26
    rw [View.readAt_full amM.view fL1 inb_S16x1024_S16x1024_0_0, hL4, show Scf.trips k0_t2_loop.lb k0_t2_loop.ub k0_t2_loop.st = 16 from t2_trips]
    rfl]
  iapply HQ
  isplitl [HB]; · iexact HB
  isplitl [HXH]; · iexact HXH
  isplitl [HXC]; · iexact HXC
  isplitl [HA]
  · unfold ownsV
    iexists _
    isplitl [HA]; · iexact HA
    ipureintro
    exact View.read_writes_full accM.view accM.view.junk inb_S1024x3072_S1024x3072_0_0 _ []
  isplitl [HS0 HS1]
  · rw [show wBoth c WA 0 = _ from if_pos (by omega)]
    isplitl [HS0]
    · iexists _
      isplitl [HS0]; · iexact HS0
      ipureintro
      exact View.read_writes_whole w0M.view fw0 _
    · iexists _
      isplitl [HS1]; · iexact HS1
      ipureintro
      exact View.read_writes_whole w1M.view fw1 _
  isplitl [HRW]; · iexact HRW
  isplitl [HM]; · iexists _; iexact HM
  iexists _; iexact HW
end Body

end Cert.Proof.RunKernelIdeal

end
-- ==== Proof.Part5.lean ====
/- The part of the sum: the codes of every block, and the sum of their products with the weights. -/
module

public import proofs.«01_k».proof.Proof.Blocks

@[expose] public section

noncomputable section

namespace Cert.Proof.RunKernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UU nD τ) ℕ

section Body
variable (c : Dev nD) (XA : Buf (Elt F) (xM.view.loc (c : Thread nD τ))) (WA : Buf (Elt F) (wM.view.loc (c : Thread nD τ))) (v65 v66 c23 : BitVec 32)
  (arg2 : Memref sig .tc .smem S1x1 .f32) (harg2 : arg2.IsWhole)
  (arg4 : Memref sig .tc .smem S1x1 .f32) (harg4 : arg4.IsWhole)
  (arg5 : Memref sig .tc .smem S1x1 .f32) (harg5 : arg5.IsWhole)
  (arg7 : Memref sig .tc .smem S1x1 .f32) (harg7 : arg7.IsWhole)

abbrev ownC {sp : Space} {s : Shape} {e : EltTy} (M : Memref sig .tc sp s e) (f : Buf (Elt F) (M.view.loc (c : Thread nD τ))) : sProp 𝕄 :=
  M.view.loc (c : Thread nD τ) ↦[M.view.set]{fullShare} f

/-- The third loop, by its invariant. -/
theorem loop4 (Q : Unit → sProp 𝕄) :
    iprop(inv4 c XA WA v65 0 ∗ (inv4 c XA WA v65 8 -∗ Q ⟨⟩))
    ⊢ wp frame (wpE (defs₀ (F := F)) 𝒱₀ (c : Thread nD τ) none) Set.univ
      (Scf.Loop.for k0_t4_loop k0_t4_ok ⟨⟩ (k0_t4_body (F := F) xM (Memref.isWhole_whole _) wM (Memref.isWhole_whole _) arg2 harg2 ycM (Memref.isWhole_whole _) arg4 harg4 arg5 harg5 xcM (Memref.isWhole_whole _) arg7 harg7 bufM (Memref.isWhole_whole _) accM (Memref.isWhole_whole _) w0M (Memref.isWhole_whole _) w1M (Memref.isWhole_whole _) c0M (Memref.isWhole_whole _) c1M (Memref.isWhole_whole _) amM (Memref.isWhole_whole _) cc0_scratch7 cc0_scratch8 cc0_scratch9 cc0_scratch10 v65 v66 c23 (Scalar.ofBits .bf16 0x43E0#16))) Q := by
  have h := Scf.wp_for frame (wpE (defs₀ (F := F)) 𝒱₀ (c : Thread nD τ) none) Set.univ k0_t4_loop.lb k0_t4_loop.ub k0_t4_loop.st k0_t4_ok ()
    (k0_t4_body (F := F) xM (Memref.isWhole_whole _) wM (Memref.isWhole_whole _) arg2 harg2 ycM (Memref.isWhole_whole _) arg4 harg4 arg5 harg5 xcM (Memref.isWhole_whole _) arg7 harg7 bufM (Memref.isWhole_whole _) accM (Memref.isWhole_whole _) w0M (Memref.isWhole_whole _) w1M (Memref.isWhole_whole _) c0M (Memref.isWhole_whole _) c1M (Memref.isWhole_whole _) amM (Memref.isWhole_whole _) cc0_scratch7 cc0_scratch8 cc0_scratch9 cc0_scratch10 v65 v66 c23 (Scalar.ofBits .bf16 0x43E0#16))
    (fun k _ => inv4 c XA WA v65 k) (loopInv4 c XA WA v65 arg2 harg2 arg4 harg4 arg5 harg5 arg7 harg7 v66 c23).step (Q := Q)
  rw [show Scf.trips k0_t4_loop.lb k0_t4_loop.ub k0_t4_loop.st = 8 from t4_trips] at h
  refine BIBase.Entails.trans ?_ h
  iintro ⟨H, HQ⟩
  isplitl [H]; · iexact H
  iintro %u
  iexact HQ

theorem ownsV_intro {sp : Space} {s : Shape} {e : EltTy} (M : Memref sig .tc sp s e) (v : s.Idx → Elt F e) (f : Buf (Elt F) (M.view.loc (c : Thread nD τ)))
    (h : M.view.read (Elt F) f = v) : ownC c M f ⊢ ownsV c M v := by
  unfold ownsV
  iintro H
  iexists f
  isplitl [H]; · iexact H
  ipureintro; exact h

/-- At the end every block of the codes is done. -/
theorem c_last : bigSep Finset.univ (cDone c XA v65) = iprop(cDone c XA v65 (Ring.bk 16 (2 * 8 - 1)) ∗ restBut (cOut 8) (cState c XA v65 8)) := by
  rw [← rest_all ∅ (cDone c XA v65) rfl, take_one _ ∅ (Ring.bk 16 (2 * 8 - 1)) (by decide)]
  rw [rest_congr (A := insert (Ring.bk 16 (2 * 8 - 1)) ∅) (B := cOut 8) (P := cDone c XA v65) (Q := cState c XA v65 8) (by decide)
    (fun b _ => (if_pos (by have := b.isLt; omega)).symm)]

set_option sl_exec.matchHeartbeats 20 in
set_option maxHeartbeats 4000000 in
/-- The part of the sum. -/
theorem part5Run (facc f12 f13 W) (v2 : Elt F .f32) (hacc : accM.view.read (Elt F) facc = k0_pay6 (F := F)) (g2 : Buf (Elt F) (arg2.view.loc (c : Thread nD τ))) (g7 : Buf (Elt F) (arg7.view.loc (c : Thread nD τ)))
    (h2 : arg2.view.read (Elt F) g2 = fun _ => v2) (Q : (Σ' (v95 : FVec F S1024x3072 .f32), Vec F S1024x3072 .f32) → sProp 𝕄) :
    iprop((ownC c bufM (XBof c XA) ∗ ownC c accM facc ∗ ownC c c0M f12 ∗ ownC c c1M f13 ∗ oCell c 0 ∗ oCell c 1
        ∗ wBoth c WA 0 ∗ restBut (wOut 0) (wHome c WA) ∗ bigSep Finset.univ (fun b => iprop(∃ f, cHome c b f))
        ∗ ownC c arg2 g2 ∗ ownC c arg7 g7 ∗ owes (c : Thread nD τ) 0 W)
      ∗ ((ownC c bufM (XBof c XA) ∗ (∃ f, ownC c accM f) ∗ (∃ f, ownC c c0M f) ∗ (∃ f, ownC c c1M f) ∗ oCell c 0 ∗ oCell c 1
        ∗ (∃ f, w0P c f) ∗ wCell c 0 ∗ (∃ f, w1P c f) ∗ wCell c 1 ∗ bigSep Finset.univ (wHome c WA) ∗ bigSep Finset.univ (cDone c XA v65)
        ∗ ownC c arg2 g2 ∗ ownsV c arg7 (fun _ => k0_pay18 (F := F) v66 c23) ∗ owesP c)
          -∗ Q ⟨k0_pay23 v66 c23 v2 (ACC c XA WA v65 16), ACC c XA WA v65 16⟩))
    ⊢ wp frame (wpE (defs₀ (F := F)) 𝒱₀ (c : Thread nD τ) none) Set.univ
      (k0_part5 (F := F) xM (Memref.isWhole_whole _) wM (Memref.isWhole_whole _) arg2 harg2 ycM (Memref.isWhole_whole _) arg4 harg4 arg5 harg5 xcM (Memref.isWhole_whole _) arg7 harg7 bufM (Memref.isWhole_whole _) accM (Memref.isWhole_whole _) w0M (Memref.isWhole_whole _) w1M (Memref.isWhole_whole _) c0M (Memref.isWhole_whole _) c1M (Memref.isWhole_whole _) amM (Memref.isWhole_whole _) cc0_scratch7 cc0_scratch8 cc0_scratch9 cc0_scratch10 v65 v66 c23) Q := by
  have e0 : restBut (cOut 0) (cState c XA v65 0) = bigSep Finset.univ (fun b => iprop(∃ f, cHome c b f)) :=
    (rest_all _ _ (by decide)).trans (bigSep_congr fun b _ => if_neg (by omega))
  rw [← e0]
  generalize hWB : wBoth c WA 0 = WB
  generalize hRW : restBut (wOut 0) _ = RW
  generalize hRC : restBut (cOut 0) _ = RC
  iintro ⟨⟨HB, HA, H12, H13, HO0, HO1, HWB, HRW, HRC, H2, H7, HW⟩, HQ⟩
  sl_exec
  rw [Sem.wp_bind]
  ihave HI : (inv4 c XA WA v65 0) $$ [HB HA H12 H13 HO0 HO1 HWB HRW HRC HW]
  · unfold inv4
    isplitl [HB]; · iexact HB
    isplitl [HA]; · iapply (ownsV_intro c accM _ facc hacc); iexact HA
    isplitl [H12]
    · iapply (ownsV_intro c c0M (Qn c XA v65 (min (2 * 0) 15)) _ ((View.read_writes_full c0M.view _ inb_S1024x1024_S1024x1024_0_0 _ []).trans (congrArg (k0_pay20 v65) (load_blk c XA _ 0 rfl))))
      iexact H12
    isplitl [HO0]; · iexact HO0
    isplitl [H13 HO1]
    · rw [show cSecond c XA v65 0 = _ from if_pos rfl]
      isplitl [H13]; · iexists _; iexact H13
      iexact HO1
    rw [hWB, hRW, hRC]
    isplitl [HWB]; · iexact HWB
    isplitl [HRW]; · iexact HRW
    isplitl [HRC]; · iexact HRC
    iexists _; iexact HW
  iapply (loop4 c XA WA v65 v66 c23 arg2 harg2 arg4 harg4 arg5 harg5 arg7 harg7 _)
  isplitl [HI]; · iexact HI
  unfold inv4
  rw [show cSecond c XA v65 8 = _ from if_neg (by omega), show wBoth c WA 8 = _ from if_neg (by omega), rest_all (wOut 8) _ (by decide)]
  unfold ownsV
  iintro ⟨HB, ⟨%fa, HA, %hfa⟩, ⟨%fb, H12, %h12⟩, HO0, ⟨%f1, %g, HF1, H13, %h13, %hg⟩, ⟨⟨⟨%fw0, HP0⟩, HS0⟩, ⟨%fw1, HP1⟩, HS1⟩, HRW, HRC, ⟨%W1, HW⟩⟩
  sl_exec
  sl_step
  rw [show (part5Run.sl.r_1 c arg2 g2) = v2 by
      unfold part5Run.sl.r_1
      exact (congrFun (View.readAt_full arg2.view g2 inb_S1x1_S1x1_0_0) _).trans (congrFun h2 _),
    View.readAt_full accM.view fa inb_S1024x3072_S1024x3072_0_0, hfa]
  iapply HQ
  isplitl [HB]; · iexact HB
  isplitl [HA]; · iexists _; iexact HA
  isplitl [H12]; · iexists _; iexact H12
  isplitl [H13 HF1_src]
  · iexists f1
    iapply (pointsTo_share (PosShare.mem_left_op_right fullShare)).2
    isplitl [H13]; · iexact H13
    iexact HF1_src
  isplitl [HO0]; · iexact HO0
  isplitl [HF1]; · iexact HF1
  isplitl [HP0]; · iexists _; iexact HP0
  isplitl [HS0]; · iexact HS0
  isplitl [HP1]; · iexists _; iexact HP1
  isplitl [HS1]; · iexact HS1
  isplitl [HRW]; · iexact HRW
  isplitl [HRC HF1_dst]
  · rw [c_last c XA v65]
    isplitl [HF1_dst]
    · iapply (c_done c XA v65 (Ring.bk 16 (2 * 8 - 1)) _ hg); iexact HF1_dst
    iexact HRC
  isplitl [H2]; · iexact H2
  isplitl [H7]
  · iexists _
    isplitl [H7]; · iexact H7
    ipureintro
    unfold part5Run.sl.H7_1
    exact View.read_writes_full arg7.view arg7.view.junk inb_S1x1_S1x1_0_0 _ []
  iexists _; iexact HW
end Body

end Cert.Proof.RunKernelIdeal

end
-- ==== Proof.Tail.lean ====
/- The middle and the last part of the body: the two scales, the codes of the result and their way home. -/
module

public import proofs.«01_k».proof.Proof.Blocks

@[expose] public section

noncomputable section

namespace Cert.Proof.RunKernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UU nD τ) ℕ

/-- What the middle part hands on: the exponent of the scale of `x`, its two biased words. -/
def S4 (v22 : F .f32) (v23 : BitVec 32) (v26 : BitVec 1) : Σ' (v65 : BitVec 32) (v66 : BitVec 32), BitVec 32 :=
  let v27 : BitVec 32 := Scalar.select v26 v23 0#32
  let v28 : BitVec 32 := Scalar.addi v27 64#32
  let v31 : BitVec 1 := Scalar.cmpf .ole (k0_pay11 (F := F) v23 v26) v22
  let v32 : BitVec 32 := Scalar.select v31 v28 v27
  let v33 : BitVec 32 := Scalar.addi v32 32#32
  let v36 : BitVec 1 := Scalar.cmpf .ole (k0_pay12 v22 v23 v26) v22
  let v37 : BitVec 32 := Scalar.select v36 v33 v32
  let v38 : BitVec 32 := Scalar.addi v37 16#32
  let v41 : BitVec 1 := Scalar.cmpf .ole (k0_pay13 v22 v23 v26) v22
  let v42 : BitVec 32 := Scalar.select v41 v38 v37
  let v43 : BitVec 32 := Scalar.addi v42 8#32
  let v46 : BitVec 1 := Scalar.cmpf .ole (k0_pay14 v22 v23 v26) v22
  let v47 : BitVec 32 := Scalar.select v46 v43 v42
  let v48 : BitVec 32 := Scalar.addi v47 4#32
  let v51 : BitVec 1 := Scalar.cmpf .ole (k0_pay15 v22 v23 v26) v22
  let v52 : BitVec 32 := Scalar.select v51 v48 v47
  let v53 : BitVec 32 := Scalar.addi v52 2#32
  let v56 : BitVec 1 := Scalar.cmpf .ole (k0_pay16 v22 v23 v26) v22
  let v57 : BitVec 32 := Scalar.select v56 v53 v52
  let v58 : BitVec 32 := Scalar.addi v57 1#32
  let v61 : BitVec 1 := Scalar.cmpf .ole (k0_pay17 v22 v23 v26) v22
  let v62 : BitVec 32 := Scalar.select v61 v58 v57
  let v63 : BitVec 1 := Scalar.cmpi .eq v62 0#32
  let v64 : BitVec 32 := Scalar.subi v62 126#32
  let v65 : BitVec 32 := Scalar.select v63 0#32 v64
  let v66 : BitVec 32 := Scalar.addi v65 127#32
  ⟨v65, v66, 23#32⟩

/-- What the part of the result's scale hands on. -/
def S6 (v95 : FVec F S1024x3072 .f32) : Σ' (v103 : F .f32) (v104 : F .f32) (v134 : BitVec 32) (v135 : BitVec 32), F .f32 :=

  let v105 : BitVec 32 := Scalar.addi 0#32 128#32
  let v108 : BitVec 1 := Scalar.cmpf .ole (k0_pay27 (F := F)) (k0_pay26 v95)
  let v109 : BitVec 32 := Scalar.select v108 v105 0#32
  let v110 : BitVec 32 := Scalar.addi v109 64#32
  let v113 : BitVec 1 := Scalar.cmpf .ole (k0_pay28 v95) (k0_pay26 v95)
  let v114 : BitVec 32 := Scalar.select v113 v110 v109
  let v115 : BitVec 32 := Scalar.addi v114 32#32
  let v118 : BitVec 1 := Scalar.cmpf .ole (k0_pay29 v95) (k0_pay26 v95)
  let v119 : BitVec 32 := Scalar.select v118 v115 v114
  let v120 : BitVec 32 := Scalar.addi v119 16#32
  let v123 : BitVec 1 := Scalar.cmpf .ole (k0_pay30 v95) (k0_pay26 v95)
  let v124 : BitVec 32 := Scalar.select v123 v120 v119
  let v125 : BitVec 32 := Scalar.addi v124 8#32
  let v128 : BitVec 1 := Scalar.cmpf .ole (k0_pay31 v95) (k0_pay26 v95)
  let v129 : BitVec 32 := Scalar.select v128 v125 v124
  let v130 : BitVec 32 := Scalar.addi v129 4#32
  let v133 : BitVec 1 := Scalar.cmpf .ole (k0_pay32 v95) (k0_pay26 v95)
  let v134 : BitVec 32 := Scalar.select v133 v130 v129
  let v135 : BitVec 32 := Scalar.addi v134 2#32
  ⟨k0_pay25 v95, k0_pay26 v95, v134, v135, k0_pay33 v95⟩

section Body
variable (c : Dev nD) (XA : Buf (Elt F) (xM.view.loc (c : Thread nD τ))) (WA : Buf (Elt F) (wM.view.loc (c : Thread nD τ)))
  (arg2 : Memref sig .tc .smem S1x1 .f32) (harg2 : arg2.IsWhole)
  (arg4 : Memref sig .tc .smem S1x1 .f32) (harg4 : arg4.IsWhole)
  (arg5 : Memref sig .tc .smem S1x1 .f32) (harg5 : arg5.IsWhole)
  (arg7 : Memref sig .tc .smem S1x1 .f32) (harg7 : arg7.IsWhole)

abbrev ownB {sp : Space} {s : Shape} {e : EltTy} (M : Memref sig .tc sp s e) (f : Buf (Elt F) (M.view.loc (c : Thread nD τ))) : sProp 𝕄 :=
  M.view.loc (c : Thread nD τ) ↦[M.view.set]{fullShare} f
abbrev yCellB : sProp 𝕄 := semVal ((c : Thread nD τ), SemLoc.dma cc0_scratch10.sem) 0

theorem part4_eq (v22 : F .f32) (v23 : BitVec 32) (v26 : BitVec 1) :
    k0_part4 (F := F) xM (Memref.isWhole_whole _) wM (Memref.isWhole_whole _) arg2 harg2 ycM (Memref.isWhole_whole _) arg4 harg4 arg5 harg5 xcM (Memref.isWhole_whole _) arg7 harg7 bufM (Memref.isWhole_whole _) accM (Memref.isWhole_whole _) w0M (Memref.isWhole_whole _) w1M (Memref.isWhole_whole _) c0M (Memref.isWhole_whole _) c1M (Memref.isWhole_whole _) amM (Memref.isWhole_whole _) cc0_scratch7 cc0_scratch8 cc0_scratch9 cc0_scratch10 v22 v23 v26 = pure (S4 v22 v23 v26) := rfl

/-- The program after the part of the sum. -/
def tailProg (v95 : FVec F S1024x3072 .f32) (v96 : Vec F S1024x3072 .f32) : Prog (TpuEff nD τ sig (Elt F) Λ₀ .tc) PUnit := do
  let ⟨v103, v104, v134, v135, v137⟩ : Σ' (v103 : F .f32) (v104 : F .f32) (v134 : BitVec 32) (v135 : BitVec 32), F .f32 ← k0_part6 xM (Memref.isWhole_whole _) wM (Memref.isWhole_whole _) arg2 harg2 ycM (Memref.isWhole_whole _) arg4 harg4 arg5 harg5 xcM (Memref.isWhole_whole _) arg7 harg7 bufM (Memref.isWhole_whole _) accM (Memref.isWhole_whole _) w0M (Memref.isWhole_whole _) w1M (Memref.isWhole_whole _) c0M (Memref.isWhole_whole _) c1M (Memref.isWhole_whole _) amM (Memref.isWhole_whole _) cc0_scratch7 cc0_scratch8 cc0_scratch9 cc0_scratch10 v95 v96
  let v148 : Elt F .f32 ← smemLoad arg5 (Rect.unit (s := S1x1) ![0, 0] S1x1.size inb_S1x1_S1x1_0_0) numel1_S1x1 rfl
  Prog.lift (.store arg5 (Rect.unit (s := S1x1) ![0, 0] S1x1.size inb_S1x1_S1x1_0_0) (fun _ => v103) Finset.univ (View.stores_smem_one rfl numel1_S1x1) (.inl rfl))
  let v152 : Elt F .f32 ← smemLoad arg4 (Rect.unit (s := S1x1) ![0, 0] S1x1.size inb_S1x1_S1x1_0_0) numel1_S1x1 rfl
  Prog.lift (.store arg4 (Rect.unit (s := S1x1) ![0, 0] S1x1.size inb_S1x1_S1x1_0_0) (fun _ => k0_pay1 v104 v134 v135 v137) Finset.univ (View.stores_smem_one rfl numel1_S1x1) (.inl rfl))
  let v157 : Vec F S1024x3072 .f32 ← Prog.lift (.load accM (Rect.unit (s := S1024x3072) ![0, 0] S1024x3072.size inb_S1024x3072_S1024x3072_0_0).toLoadRect (View.loadsAt_vmem h_S1024x3072))
  let v165 : Vec F S1024x3072 .fp8e4m3 ← Prog.lift (.load w0M (Rect.unit (s := S1024x3072) ![0, 0] S1024x3072.size inb_S1024x3072_S1024x3072_0_0).toLoadRect (View.loadsAt_vmem h_S1024x3072))

  Prog.lift (.store w0M (Rect.unit (s := S1024x3072) ![0, 0] S1024x3072.size inb_S1024x3072_S1024x3072_0_0) (k0_pay2 v104 v134 v135 v137 v157) Finset.univ (View.stores_vmem h_S1024x3072 ((Memref.isWhole_whole _ : w0M.IsWhole).storeExact_slice rfl _ packedfp8e4m3_S1024x3072_S1024x3072_0_0) (fun _ => rfl)) (.inl rfl))
  Prog.lift (.enqueueDma w0M (.here ycM) (.dma cc0_scratch10.sem) (Memref.isWhole_whole _ : w0M.IsWhole).wordExact (Memref.isWhole_whole _ : ycM.IsWhole).wordExact ⟨Or.inl rfl, trivial⟩)
  Prog.lift (.waitDma2 cc0_scratch10.sem w0M ycM (Memref.isWhole_whole _ : w0M.IsWhole).wordExact (Memref.isWhole_whole _ : ycM.IsWhole).wordExact)
  pure ⟨⟩

set_option maxHeartbeats 4000000 in
/-- The last part of the body. -/
theorem tailRun (v95 : FVec F S1024x3072 .f32) (v96 : Vec F S1024x3072 .f32) (facc fw0 fy W) (g4 : Buf (Elt F) (arg4.view.loc (c : Thread nD τ)))
    (g5 : Buf (Elt F) (arg5.view.loc (c : Thread nD τ))) (Q : PUnit → sProp 𝕄) :
    iprop((ownB c accM facc ∗ ownB c w0M fw0 ∗ ownB c ycM fy ∗ yCellB c ∗ ownB c arg4 g4 ∗ ownB c arg5 g5 ∗ owes (c : Thread nD τ) 0 W)
      ∗ (((∃ f, ownB c accM f) ∗ (∃ f, ownB c w0M f)
          ∗ ownsV c ycM (k0_pay2 (S6 v95).2.1 (S6 v95).2.2.1 (S6 v95).2.2.2.1 (S6 v95).2.2.2.2 (k0_pay24 v95)) ∗ yCellB c
          ∗ ownsV c arg4 (fun _ => k0_pay1 (S6 v95).2.1 (S6 v95).2.2.1 (S6 v95).2.2.2.1 (S6 v95).2.2.2.2) ∗ ownsV c arg5 (fun _ => (S6 v95).1) ∗ owesP c) -∗ Q ⟨⟩))
    ⊢ wp frame (wpE (defs₀ (F := F)) 𝒱₀ (c : Thread nD τ) none) Set.univ
      (tailProg arg2 harg2 arg4 harg4 arg5 harg5 arg7 harg7 v95 v96) Q := by
  unfold tailProg
  iintro ⟨⟨HA, HP0, HY, HYC, H4, H5, HW⟩, HQ⟩
  sl_exec
  sl_step
  iapply HQ
  isplitl [HA]; · iexists _; iexact HA
  isplitl [HP0]; · iexists _; iexact HP0
  isplitl [HY]
  · unfold ownsV
    iexists _
    isplitl [HY]; · iexact HY
    ipureintro
    refine (View.read_writes_whole ycM.view fy _).trans ?_
    unfold tailRun.sl.dma8 tailRun.sl.HP0_1
    refine (View.read_writes_full w0M.view fw0 inb_S1024x3072_S1024x3072_0_0 _ []).trans ?_
    have e1 : tailRun.sl.v157 v95 = k0_pay24 v95 := by
      unfold tailRun.sl.v157
      unfold tailRun.sl.HA_1
      exact View.readCov_full accM.view inb_S1024x3072_S1024x3072_0_0 inb_S1024x3072_S1024x3072_0_0 _ _
    rw [e1]
    have e2 : tailRun.sl.v134 v95 = (S6 v95).2.2.1 := rfl
    have e3 : tailRun.sl.v135 v95 = (S6 v95).2.2.2.1 := rfl
    rw [e2, e3]
    have e4 : k0_pay26 v95 = (S6 v95).2.1 := rfl
    have e5 : k0_pay33 v95 = (S6 v95).2.2.2.2 := rfl
    rw [← e4, ← e5]
  isplitl [HYC]; · iexact HYC
  isplitl [H4]
  · unfold ownsV
    iexists _
    isplitl [H4]; · iexact H4
    ipureintro
    exact View.read_writes_full arg4.view g4 inb_S1x1_S1x1_0_0 _ []
  isplitl [H5]
  · unfold ownsV
    iexists _
    isplitl [H5]; · iexact H5
    ipureintro
    refine (View.read_writes_full arg5.view g5 inb_S1x1_S1x1_0_0 _ []).trans ?_
    have e1 : k0_pay25 v95 = (S6 v95).1 := by unfold S6; dsimp only
    exact funext fun _ => e1
  iexists _; iexact HW
end Body

end Cert.Proof.RunKernelIdeal

end
-- ==== Proof.Body.lean ====
/- The whole body. -/
module

public import proofs.«01_k».proof.Proof.Part3
public import proofs.«01_k».proof.Proof.Part5
public import proofs.«01_k».proof.Proof.Tail

@[expose] public section

noncomputable section

namespace Cert.Proof.RunKernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UU nD τ) ℕ

/-! ## What the body computes -/

section Values
variable (c : Dev nD) (XA : Buf (Elt F) (xM.view.loc (c : Thread nD τ))) (WA : Buf (Elt F) (wM.view.loc (c : Thread nD τ))) (v2 : Elt F .f32)

/-- The words of the scale of `x`. -/
def R4 : Σ' (v65 : BitVec 32) (v66 : BitVec 32), BitVec 32 :=
  S4 (S3 (AM2 c (XBof c XA) 16)).1 (S3 (AM2 c (XBof c XA) 16)).2.1 (S3 (AM2 c (XBof c XA) 16)).2.2
/-- The exponent of the scale of `x`. -/
def eX : BitVec 32 := (R4 c XA).1
/-- The scaled product. -/
def YV : FVec F S1024x3072 .f32 := k0_pay23 (R4 c XA).2.1 (R4 c XA).2.2 v2 (ACC c XA WA (eX c XA) 16)
/-- The scale of `x`; -/
def outXs : S1x1.Idx → Elt F .f32 := fun _ => k0_pay18 (F := F) (R4 c XA).2.1 (R4 c XA).2.2
/-- the largest magnitude of the product; -/
def outAm : S1x1.Idx → Elt F .f32 := fun _ => (S6 (YV c XA WA v2)).1
/-- its scale; -/
def outSc : S1x1.Idx → Elt F .f32 := fun _ => k0_pay1 (S6 (YV c XA WA v2)).2.1 (S6 (YV c XA WA v2)).2.2.1 (S6 (YV c XA WA v2)).2.2.2.1 (S6 (YV c XA WA v2)).2.2.2.2
/-- its codes; -/
def outY : Vec F S1024x3072 .fp8e4m3 := k0_pay2 (S6 (YV c XA WA v2)).2.1 (S6 (YV c XA WA v2)).2.2.1 (S6 (YV c XA WA v2)).2.2.2.1 (S6 (YV c XA WA v2)).2.2.2.2 (k0_pay24 (YV c XA WA v2))
/-- the codes of `x`. -/
def outX : Buf (Elt F) (xcM.view.loc (c : Thread nD τ)) := XCof c XA (eX c XA)
end Values

section Body
variable (c : Dev nD) (XA : Buf (Elt F) (xM.view.loc (c : Thread nD τ))) (WA : Buf (Elt F) (wM.view.loc (c : Thread nD τ)))
  (arg2 : Memref sig .tc .smem S1x1 .f32) (harg2 : arg2.IsWhole)
  (arg4 : Memref sig .tc .smem S1x1 .f32) (harg4 : arg4.IsWhole)
  (arg5 : Memref sig .tc .smem S1x1 .f32) (harg5 : arg5.IsWhole)
  (arg7 : Memref sig .tc .smem S1x1 .f32) (harg7 : arg7.IsWhole)

/-- The body is its parts one after another. -/
theorem body_eq : cc0_fp8_linear (F := F) xM (Memref.isWhole_whole _) wM (Memref.isWhole_whole _) arg2 harg2 ycM (Memref.isWhole_whole _) arg4 harg4 arg5 harg5 xcM (Memref.isWhole_whole _) arg7 harg7 bufM (Memref.isWhole_whole _) accM (Memref.isWhole_whole _) w0M (Memref.isWhole_whole _) w1M (Memref.isWhole_whole _) c0M (Memref.isWhole_whole _) c1M (Memref.isWhole_whole _) amM (Memref.isWhole_whole _) cc0_scratch7 cc0_scratch8 cc0_scratch9 cc0_scratch10
    = (k0_part3 (F := F) xM (Memref.isWhole_whole _) wM (Memref.isWhole_whole _) arg2 harg2 ycM (Memref.isWhole_whole _) arg4 harg4 arg5 harg5 xcM (Memref.isWhole_whole _) arg7 harg7 bufM (Memref.isWhole_whole _) accM (Memref.isWhole_whole _) w0M (Memref.isWhole_whole _) w1M (Memref.isWhole_whole _) c0M (Memref.isWhole_whole _) c1M (Memref.isWhole_whole _) amM (Memref.isWhole_whole _) cc0_scratch7 cc0_scratch8 cc0_scratch9 cc0_scratch10) >>= (fun r3 => (k0_part4 (F := F) xM (Memref.isWhole_whole _) wM (Memref.isWhole_whole _) arg2 harg2 ycM (Memref.isWhole_whole _) arg4 harg4 arg5 harg5 xcM (Memref.isWhole_whole _) arg7 harg7 bufM (Memref.isWhole_whole _) accM (Memref.isWhole_whole _) w0M (Memref.isWhole_whole _) w1M (Memref.isWhole_whole _) c0M (Memref.isWhole_whole _) c1M (Memref.isWhole_whole _) amM (Memref.isWhole_whole _) cc0_scratch7 cc0_scratch8 cc0_scratch9 cc0_scratch10 r3.1 r3.2.1 r3.2.2) >>=
        (fun r4 => (k0_part5 (F := F) xM (Memref.isWhole_whole _) wM (Memref.isWhole_whole _) arg2 harg2 ycM (Memref.isWhole_whole _) arg4 harg4 arg5 harg5 xcM (Memref.isWhole_whole _) arg7 harg7 bufM (Memref.isWhole_whole _) accM (Memref.isWhole_whole _) w0M (Memref.isWhole_whole _) w1M (Memref.isWhole_whole _) c0M (Memref.isWhole_whole _) c1M (Memref.isWhole_whole _) amM (Memref.isWhole_whole _) cc0_scratch7 cc0_scratch8 cc0_scratch9 cc0_scratch10 r4.1 r4.2.1 r4.2.2) >>=
          (fun r5 => tailProg (F := F) arg2 harg2 arg4 harg4 arg5 harg5 arg7 harg7 r5.1 r5.2))) := rfl

/-- What the body is called with, besides the words in scalar memory. -/
def bodyIn : sProp 𝕄 :=
  iprop(bigSep Finset.univ (xIdle c XA) ∗ bigSep Finset.univ (wHome c WA) ∗ bigSep Finset.univ (fun b => iprop(∃ f, cHome c b f)) ∗ (∃ f, ownA c ycM f)
      ∗ (∃ f, ownA c accM f) ∗ (∃ f, ownA c w0M f) ∗ (∃ f, ownA c w1M f) ∗ (∃ f, ownA c c0M f) ∗ (∃ f, ownA c c1M f) ∗ (∃ f, ownA c amM f)
      ∗ wCell c 0 ∗ wCell c 1 ∗ oCell c 0 ∗ oCell c 1 ∗ yCell c)
/-- What it leaves. -/
def bodyOut (v2 : Elt F .f32) : sProp 𝕄 :=
  iprop((ownA c bufM (XBof c XA) ∗ bigSep Finset.univ (xHome c XA) ∗ bigSep Finset.univ (xCell c)) ∗ bigSep Finset.univ (wHome c WA)
      ∗ bigSep Finset.univ (cDone c XA (eX c XA)) ∗ ownsV c ycM (outY c XA WA v2)
      ∗ (∃ f, ownA c accM f) ∗ (∃ f, ownA c w0M f) ∗ (∃ f, ownA c w1M f) ∗ (∃ f, ownA c c0M f) ∗ (∃ f, ownA c c1M f) ∗ (∃ f, ownA c amM f)
      ∗ wCell c 0 ∗ wCell c 1 ∗ oCell c 0 ∗ oCell c 1 ∗ yCell c)

set_option maxHeartbeats 1000000 in
/-- The body. -/
theorem bodyRun (v2 : Elt F .f32) (g2 : Buf (Elt F) (arg2.view.loc (c : Thread nD τ))) (h2 : arg2.view.read (Elt F) g2 = fun _ => v2) (g4 : Buf (Elt F) (arg4.view.loc (c : Thread nD τ)))
    (g5 : Buf (Elt F) (arg5.view.loc (c : Thread nD τ))) (g7 : Buf (Elt F) (arg7.view.loc (c : Thread nD τ))) (W) (Q : PUnit → sProp 𝕄) :
    iprop((bodyIn c XA WA ∗ ownA c arg2 g2 ∗ ownA c arg4 g4 ∗ ownA c arg5 g5 ∗ ownA c arg7 g7 ∗ owes (c : Thread nD τ) 0 W)
      ∗ ((bodyOut c XA WA v2 ∗ ownA c arg2 g2 ∗ ownsV c arg4 (outSc c XA WA v2) ∗ ownsV c arg5 (outAm c XA WA v2) ∗ ownsV c arg7 (outXs c XA) ∗ owesP c) -∗ Q ⟨⟩))
    ⊢ wp frame (wpE (defs₀ (F := F)) 𝒱₀ (c : Thread nD τ) none) Set.univ (cc0_fp8_linear (F := F) xM (Memref.isWhole_whole _) wM (Memref.isWhole_whole _) arg2 harg2 ycM (Memref.isWhole_whole _) arg4 harg4 arg5 harg5 xcM (Memref.isWhole_whole _) arg7 harg7 bufM (Memref.isWhole_whole _) accM (Memref.isWhole_whole _) w0M (Memref.isWhole_whole _) w1M (Memref.isWhole_whole _) c0M (Memref.isWhole_whole _) c1M (Memref.isWhole_whole _) amM (Memref.isWhole_whole _) cc0_scratch7 cc0_scratch8 cc0_scratch9 cc0_scratch10) Q := by
  rw [body_eq arg2 harg2 arg4 harg4 arg5 harg5 arg7 harg7]
  unfold bodyIn
  iintro ⟨⟨⟨HX, HWW, HCS, ⟨%fy, HY⟩, ⟨%facc, HA⟩, ⟨%fw0, HP0⟩, ⟨%fw1, HP1⟩, ⟨%f12, H12⟩, ⟨%f13, H13⟩, ⟨%fm, HM⟩, HS0, HS1, HO0, HO1, HYC⟩, H2, H4, H5, H7, HW⟩, HQ⟩
  rw [Sem.wp_bind]
  iapply (part3Run c XA WA arg2 harg2 arg4 harg4 arg5 harg5 arg7 harg7 facc fw0 fw1 fm W _)
  isplitl [HX HWW HA HP0 HP1 HM HS0 HS1 HW]
  · isplitl [HX]; · iexact HX
    isplitl [HWW]; · rw [rest_all ∅ _ rfl]; iexact HWW
    isplitl [HA]; · iexact HA
    isplitl [HP0]; · iexact HP0
    isplitl [HP1]; · iexact HP1
    isplitl [HM]; · iexact HM
    isplitl [HS0]; · iexact HS0
    isplitl [HS1]; · iexact HS1
    iexact HW
  unfold ownsV
  iintro ⟨HB, HXH, HXC, ⟨%fa, HA, %hfa⟩, HWB, HRW, ⟨%fm2, HM⟩, ⟨%W2, HW⟩⟩
  rw [part4_eq]
  rw [show ((pure (S4 (S3 (AM2 c (XBof c XA) 16)).1 (S3 (AM2 c (XBof c XA) 16)).2.1 (S3 (AM2 c (XBof c XA) 16)).2.2) : Prog (TpuEff nD τ sig (Elt F) Λ₀ .tc) _) >>=
      (fun r4 => (k0_part5 (F := F) xM (Memref.isWhole_whole _) wM (Memref.isWhole_whole _) arg2 harg2 ycM (Memref.isWhole_whole _) arg4 harg4 arg5 harg5 xcM (Memref.isWhole_whole _) arg7 harg7 bufM (Memref.isWhole_whole _) accM (Memref.isWhole_whole _) w0M (Memref.isWhole_whole _) w1M (Memref.isWhole_whole _) c0M (Memref.isWhole_whole _) c1M (Memref.isWhole_whole _) amM (Memref.isWhole_whole _) cc0_scratch7 cc0_scratch8 cc0_scratch9 cc0_scratch10 r4.1 r4.2.1 r4.2.2) >>=
          (fun r5 => tailProg (F := F) arg2 harg2 arg4 harg4 arg5 harg5 arg7 harg7 r5.1 r5.2)))
      = (k0_part5 (F := F) xM (Memref.isWhole_whole _) wM (Memref.isWhole_whole _) arg2 harg2 ycM (Memref.isWhole_whole _) arg4 harg4 arg5 harg5 xcM (Memref.isWhole_whole _) arg7 harg7 bufM (Memref.isWhole_whole _) accM (Memref.isWhole_whole _) w0M (Memref.isWhole_whole _) w1M (Memref.isWhole_whole _) c0M (Memref.isWhole_whole _) c1M (Memref.isWhole_whole _) amM (Memref.isWhole_whole _) cc0_scratch7 cc0_scratch8 cc0_scratch9 cc0_scratch10 (eX c XA) (R4 c XA).2.1 (R4 c XA).2.2) >>=
          (fun r5 => tailProg (F := F) arg2 harg2 arg4 harg4 arg5 harg5 arg7 harg7 r5.1 r5.2) from rfl, Sem.wp_bind]
  iapply (part5Run c XA WA (eX c XA) (R4 c XA).2.1 (R4 c XA).2.2 arg2 harg2 arg4 harg4 arg5 harg5 arg7 harg7 fa f12 f13 W2 v2 hfa g2 g7 h2 _)
  isplitl [HB HA H12 H13 HO0 HO1 HWB HRW HCS H2 H7 HW]
  · isplitl [HB]; · iexact HB
    isplitl [HA]; · iexact HA
    isplitl [H12]; · iexact H12
    isplitl [H13]; · iexact H13
    isplitl [HO0]; · iexact HO0
    isplitl [HO1]; · iexact HO1
    isplitl [HWB]; · iexact HWB
    isplitl [HRW]; · iexact HRW
    isplitl [HCS]; · iexact HCS
    isplitl [H2]; · iexact H2
    isplitl [H7]; · iexact H7
    iexact HW
  iintro ⟨HB, ⟨%fa2, HA⟩, HC0, HC1, HO0, HO1, ⟨%fw02, HP0⟩, HS0, HP1, HS1, HWH, HCD, H2, H7, ⟨%W3, HW⟩⟩
  iapply (tailRun c arg2 harg2 arg4 harg4 arg5 harg5 arg7 harg7 (YV c XA WA v2) (ACC c XA WA (eX c XA) 16) fa2 fw02 fy W3 g4 g5 _)
  isplitl [HA HP0 HY HYC H4 H5 HW]
  · isplitl [HA]; · iexact HA
    isplitl [HP0]; · iexact HP0
    isplitl [HY]; · iexact HY
    isplitl [HYC]; · iexact HYC
    isplitl [H4]; · iexact H4
    isplitl [H5]; · iexact H5
    iexact HW
  iintro ⟨HA, HP0, HY, HYC, H4, H5, HW⟩
  unfold bodyOut ownsV outY outSc outAm outXs
  iapply HQ
  isplitl [HB HXH HXC HWH HCD HY HA HP0 HP1 HC0 HC1 HM HS0 HS1 HO0 HO1 HYC]
  · isplitl [HB HXH HXC]
    · isplitl [HB]; · iexact HB
      isplitl [HXH]; · iexact HXH
      iexact HXC
    isplitl [HWH]; · iexact HWH
    isplitl [HCD]; · iexact HCD
    isplitl [HY]; · iexact HY
    isplitl [HA]; · iexact HA
    isplitl [HP0]; · iexact HP0
    isplitl [HP1]; · iexact HP1
    isplitl [HC0]; · iexact HC0
    isplitl [HC1]; · iexact HC1
    isplitl [HM]; · iexists _; iexact HM
    isplitl [HS0]; · iexact HS0
    isplitl [HS1]; · iexact HS1
    isplitl [HO0]; · iexact HO0
    isplitl [HO1]; · iexact HO1
    iexact HYC
  isplitl [H2]; · iexact H2
  isplitl [H4]; · iexact H4
  isplitl [H5]; · iexact H5
  isplitl [H7]; · iexact H7
  iexact HW
end Body

end Cert.Proof.RunKernelIdeal

end
-- ==== Proof.Cells.lean ====
/- The kernel's own semaphore cells. -/
module

public import proofs.«01_k».proof.Proof.Body
public import proofs.«01_k».proof.Proof.Blocks

@[expose] public section

noncomputable section

namespace Cert.Proof.RunKernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

/-! ## The kernel's own cells -/

/-- The cells of the staging slots, the weight buffers, the code buffers and the result. -/
def osem : Fin 16 ⊕ Fin 2 ⊕ Fin 2 ⊕ Fin 1 → SemLoc sig
  | .inl b => SemLoc.dma (xsm b).sem
  | .inr (.inl b) => SemLoc.dma (wsm b).sem
  | .inr (.inr (.inl b)) => SemLoc.dma (osm b).sem
  | .inr (.inr (.inr _)) => SemLoc.dma cc0_scratch10.sem

theorem ownSemFacts : Pipeline.OwnSemFacts spec0 osem := by decide

omit [FloatOps F] in
theorem ownSems_eq (c : Dev nD) :
    (Pipeline.ownSems0 (Ix := Unit) (Name := ℕ) (U := UU nD τ) (Lvl := ℕ) (Val := Elt F) (τ := τ) osem c : sProp 𝕄)
      = iprop(bigSep Finset.univ (fun b : Fin 16 => xCell (F := F) c b) ∗ (wCell c 0 ∗ wCell c 1) ∗ (oCell c 0 ∗ oCell c 1) ∗ yCell c) := by
  unfold Pipeline.ownSems0
  rw [bigSep_univ_sum, bigSep_univ_sum, bigSep_univ_sum, bigSep_univ_eq_bigSepL [(0 : Fin 2), 1] (by decide) (by decide),
    bigSep_univ_eq_bigSepL [(0 : Fin 2), 1] (by decide) (by decide), bigSep_univ_eq_bigSepL [(0 : Fin 1)] (by decide) (by decide)]
  rfl

end Cert.Proof.RunKernelIdeal

end
-- ==== Proof.Data.lean ====
/- The pipeline's data: what its arrays hold before and after the body. -/
module

public import proofs.«01_k».proof.Proof.Cells

@[expose] public section

noncomputable section

namespace Cert.Proof.RunKernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

section Run
variable (m : (ℓ : Loc nD τ sig) → Buf (Elt F) ℓ) (ρ : Dev nD → PrngReg)

/-- `x` and the weight codes as the region finds them; -/
abbrev XA0 (c : Dev nD) : Buf (Elt F) (xM.view.loc (c : Thread nD τ)) := V m c main_v0
abbrev WA0 (c : Dev nD) : Buf (Elt F) (wM.view.loc (c : Thread nD τ)) := V m c main_arg1
/-- the weight scale. -/
def ws0 (c : Dev nD) : Elt F .f32 := iblk m c 0 t0_0 (fun a => ⟨0, by fin_cases a <;> decide⟩)
theorem ws0_eq (c : Dev nD) : iblk m c 0 t0_0 = fun _ => ws0 m c := by
  funext i
  unfold ws0
  congr 1
  funext a
  have h : (i a).val < 1 := lt_of_lt_of_le (i a).isLt (by fin_cases a <;> decide)
  apply Fin.ext
  show (i a).val = 0
  omega

/-- The kept arrays and the written ones. -/
abbrev HS : Finset (Ref sig .tc) := {main_v0, main_arg1}
abbrev RS : Finset (Ref sig .tc) := {main_v2_0, main_v2_3}

/-- The written arrays at the end. -/
def G (c : Dev nD) (b : Ref sig .tc) : Buf (Elt F) ((c : Thread nD τ).loc b) :=
  if h : b = main_v2_0 then h ▸ (outY c (XA0 m c) (WA0 m c) (ws0 m c) : Buf (Elt F) ((c : Thread nD τ).loc main_v2_0))
  else if h : b = main_v2_3 then h ▸ (outX c (XA0 m c) : Buf (Elt F) ((c : Thread nD τ).loc main_v2_3))
  else V m c b
theorem G_y (c : Dev nD) : G m c main_v2_0 = outY c (XA0 m c) (WA0 m c) (ws0 m c) := by unfold G; rw [dif_pos rfl]
theorem G_x (c : Dev nD) : G m c main_v2_3 = outX c (XA0 m c) := by unfold G; rw [dif_neg (by decide), dif_pos rfl]

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => outSc c (XA0 m c) (WA0 m c) (ws0 m c)
    | ⟨2, _⟩ => outAm c (XA0 m c) (WA0 m c) (ws0 m c)
    | ⟨3, _⟩ => outXs c (XA0 m c)
  Φ k := if k.val = 0 then Pipeline.ΦDRV osem spec0 HS RS (V m) (V m) c else Pipeline.ΦDRV osem spec0 HS RS (V m) (G m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = outSc c (XA0 m c) (WA0 m c) (ws0 m c) := by dsimp only [dats]
theorem after0_2 (c : Dev nD) (t : Fin cfg0.N) : (dats m 0 c).after 2 t = outAm c (XA0 m c) (WA0 m c) (ws0 m c) := by dsimp only [dats]
theorem after0_3 (c : Dev nD) (t : Fin cfg0.N) : (dats m 0 c).after 3 t = outXs c (XA0 m c) := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

end Run

end Cert.Proof.RunKernelIdeal

end
-- ==== Proof.Launch.lean ====
/- The launch: the body's triple as the pipeline's body obligation, and the run of the program. -/
module

public import proofs.«01_k».proof.Proof.Data

@[expose] public section

noncomputable section

namespace Cert.Proof.RunKernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

section Run
variable (m : (ℓ : Loc nD τ sig) → Buf (Elt F) ℓ) (ρ : Dev nD → PrngReg)

/-! ## The region's resources and the body's -/

omit [FloatOps F] in
theorem pair_eq (b b' : Ref sig .tc) (h : b ≠ b') (P : Ref sig .tc → sProp 𝕄) : bigSep {b, b'} P = iprop(P b ∗ P b') := by
  rw [BI.bigSep_insert (by simpa using h), BI.bigSep_singleton]; rfl
omit [FloatOps F] in
theorem whole_all (c : Dev nD) (b : Ref sig .tc) (f : Buf (Elt F) ((c : Thread nD τ).loc b)) :
    ((c : Thread nD τ).loc b ↦{fullShare} f : sProp 𝕄) = ((View.whole b).loc (c : Thread nD τ) ↦[(View.whole b).set]{fullShare} f) := by
  rw [show (View.whole b).set = Finset.univ from View.set_whole _]
omit [FloatOps F] in
theorem whole_ex (c : Dev nD) (b : Ref sig .tc) :
    iprop(∃ f : Buf (Elt F) ((c : Thread nD τ).loc b), (c : Thread nD τ).loc b ↦{fullShare} f : sProp 𝕄)
      = iprop(∃ f : Buf (Elt F) ((c : Thread nD τ).loc b), (View.whole b).loc (c : Thread nD τ) ↦[(View.whole b).set]{fullShare} f) := by
  rw [show (View.whole b).set = Finset.univ from View.set_whole _]

omit [FloatOps F] in
theorem ex_slot (c : Dev nD) (b : Fin 16) (f) : (slotP (F := F) c b f : sProp 𝕄) ⊢ iprop(∃ f, slotP c b f) := by iintro H; iexists _; iexact H
omit [FloatOps F] in
theorem ex_home (c : Dev nD) (b : Fin 16) (f) : (cHome (F := F) c b f : sProp 𝕄) ⊢ iprop(∃ f, cHome c b f) := by iintro H; iexists _; iexact H

theorem entry (c : Dev nD) : Pipeline.ΦDRV osem spec0 HS RS (V m) (V m) c ⊢ bodyIn c (XA0 m c) (WA0 m c) := by
  unfold Pipeline.ΦDRV
  rw [scopedRest0_eq, ownSems_eq, pair_eq _ _ (by decide), pair_eq _ _ (by decide)]
  iintro ⟨⟨⟨%f0, H0⟩, H1, H2, H3, H4, H5, H6⟩, ⟨HXC, ⟨HW0, HW1⟩, ⟨HO0, HO1⟩, HYC⟩, ⟨HX, HWt⟩, ⟨HY, HC⟩⟩
  ihave H0 := ((entails_of_eq (buf_whole c f0)).trans (bigSep_mono (Ψ := fun b => iprop(∃ f, slotP c b f)) fun b _ => ex_slot c b f0)) $$ H0
  ihave HX := (entails_of_eq (x_whole c (XA0 m c))) $$ HX
  ihave HWt := (entails_of_eq (w_whole c (WA0 m c))) $$ HWt
  ihave HC := ((entails_of_eq (c_whole c (V m c main_v2_3))).trans (bigSep_mono (Ψ := fun b => iprop(∃ f, cHome c b f)) fun b _ => ex_home c b _)) $$ HC
  ihave HY := (entails_of_eq (whole_all c main_v2_0 (V m c main_v2_0))) $$ HY
  ihave H1 := (entails_of_eq (whole_ex c cc0_scratch1)) $$ H1
  ihave H2 := (entails_of_eq (whole_ex c cc0_scratch2)) $$ H2
  ihave H3 := (entails_of_eq (whole_ex c cc0_scratch3)) $$ H3
  ihave H4 := (entails_of_eq (whole_ex c cc0_scratch4)) $$ H4
  ihave H5 := (entails_of_eq (whole_ex c cc0_scratch5)) $$ H5
  ihave H6 := (entails_of_eq (whole_ex c cc0_scratch6)) $$ H6
  unfold bodyIn
  isplitl [H0 HX HXC]
  · iapply (entails_of_eq (bigSep_sep' Finset.univ (fun b => iprop(∃ f, slotP c b f)) (fun b => iprop(xHome c (XA0 m c) b ∗ xCell c b))).symm)
    isplitl [H0]; · iexact H0
    iapply (entails_of_eq (bigSep_sep' Finset.univ (xHome c (XA0 m c)) (xCell c)).symm)
    isplitl [HX]; · iexact HX
    iexact HXC
  isplitl [HWt]; · iexact HWt
  isplitl [HC]; · iexact HC
  isplitl [HY]; · iexists _; iexact HY
  isplitl [H1]; · iexact H1
  isplitl [H2]; · iexact H2
  isplitl [H3]; · iexact H3
  isplitl [H4]; · iexact H4
  isplitl [H5]; · iexact H5
  isplitl [H6]; · iexact H6
  isplitl [HW0]; · iexact HW0
  isplitl [HW1]; · iexact HW1
  isplitl [HO0]; · iexact HO0
  isplitl [HO1]; · iexact HO1
  iexact HYC

theorem exit (c : Dev nD) : bodyOut c (XA0 m c) (WA0 m c) (ws0 m c) ⊢ Pipeline.ΦDRV osem spec0 HS RS (V m) (G m) c := by
  unfold Pipeline.ΦDRV bodyOut ownsV
  rw [scopedRest0_eq, ownSems_eq, pair_eq _ _ (by decide), pair_eq _ _ (by decide), G_y, G_x]
  iintro ⟨⟨H0, HX, HXC⟩, HWt, HC, ⟨%fy, HY, %hy⟩, H1, H2, H3, H4, H5, H6, HW0, HW1, HO0, HO1, HYC⟩
  have hy' : fy = outY c (XA0 m c) (WA0 m c) (ws0 m c) := hy
  subst hy'
  ihave H0 := (entails_of_eq (buf_all c _).symm) $$ H0
  ihave HX := (entails_of_eq (x_whole c (XA0 m c)).symm) $$ HX
  ihave HWt := (entails_of_eq (w_whole c (WA0 m c)).symm) $$ HWt
  ihave HC := (show bigSep Finset.univ (cDone c (XA0 m c) (eX c (XA0 m c))) ⊢ _ from entails_of_eq (c_whole c (outX c (XA0 m c))).symm) $$ HC
  ihave HY := (entails_of_eq (whole_all c main_v2_0 _).symm) $$ HY
  ihave H1 := (entails_of_eq (whole_ex c cc0_scratch1).symm) $$ H1
  ihave H2 := (entails_of_eq (whole_ex c cc0_scratch2).symm) $$ H2
  ihave H3 := (entails_of_eq (whole_ex c cc0_scratch3).symm) $$ H3
  ihave H4 := (entails_of_eq (whole_ex c cc0_scratch4).symm) $$ H4
  ihave H5 := (entails_of_eq (whole_ex c cc0_scratch5).symm) $$ H5
  ihave H6 := (entails_of_eq (whole_ex c cc0_scratch6).symm) $$ H6
  isplitl [H0 H1 H2 H3 H4 H5 H6]
  · isplitl [H0]; · iexists _; iexact H0
    isplitl [H1]; · iexact H1
    isplitl [H2]; · iexact H2
    isplitl [H3]; · iexact H3
    isplitl [H4]; · iexact H4
    isplitl [H5]; · iexact H5
    iexact H6
  isplitl [HXC HW0 HW1 HO0 HO1 HYC]
  · isplitl [HXC]; · iexact HXC
    isplitl [HW0 HW1]
    · isplitl [HW0]; · iexact HW0
      iexact HW1
    isplitl [HO0 HO1]
    · isplitl [HO0]; · iexact HO0
      iexact HO1
    iexact HYC
  isplitl [HX HWt]
  · isplitl [HX]; · iexact HX
    iexact HWt
  isplitl [HY]; · iexact HY
  iexact HC

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem Φ_pre (c : Dev nD) (t : Fin cfg0.N) : (dats m 0 c).Φ t.castSucc = Pipeline.ΦDRV osem spec0 HS RS (V m) (V m) c := by
  rw [fin_N0 t]; rfl
theorem Φ_post (c : Dev nD) (t : Fin cfg0.N) : (dats m 0 c).Φ t.succ = Pipeline.ΦDRV osem spec0 HS RS (V m) (G m) c := by
  rw [fin_N0 t]; rfl

theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  simp only [before0_0]
  rw [Φ_pre, Φ_post, after0_0, after0_1, after0_2, after0_3,
    show iblk m c 0 t = fun _ => ws0 m c by rw [fin_N0 t]; exact ws0_eq m c]
  unfold owns Dat.owesAt Pipeline.owesWithin
  iintro ⟨HΦ, ⟨%W, -, Ho⟩, ⟨%d0, %g2, %h2, H2⟩, ⟨%d1, %g4, -, H4⟩, ⟨%d2, %g5, -, H5⟩, ⟨%d3, %g7, -, H7⟩⟩
  ihave HI := (entry m c) $$ HΦ
  iapply (bodyRun c (XA0 m c) (WA0 m c) (st0_0 t) _ (st0_1 t) _ (st0_2 t) _ (st0_3 t) _ (ws0 m c) g2 h2 g4 g5 g7 W _)
  isplitl [HI H2 H4 H5 H7 Ho]
  · isplitl [HI]; · iexact HI
    isplitl [H2]; · iexact H2
    isplitl [H4]; · iexact H4
    isplitl [H5]; · iexact H5
    isplitl [H7]; · iexact H7
    iexact Ho
  unfold ownsV
  iintro ⟨HI, H2, ⟨%g4', H4, %h4⟩, ⟨%g5', H5, %h5⟩, ⟨%g7', H7, %h7⟩, ⟨%W', Ho⟩⟩
  ihave HΦ := (exit m c) $$ HI
  isplitl [HΦ]; · iexact HΦ
  isplitl [Ho]
  · iexists W'
    isplitr
    · ipureintro; exact fun _ _ => Or.inl trivial
    · iexact Ho
  isplitl [H2]
  · iexists _
    isplitr
    · ipureintro; exact h2
    · iexact H2
  isplitl [H4]
  · iexists _
    isplitr
    · ipureintro; exact h4
    · iexact H4
  isplitl [H5]
  · iexists _
    isplitr
    · ipureintro; exact h5
    · iexact H5
  iexists _
  isplitr
  · ipureintro; exact h7
  · iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The run -/

/-- Every buffer the pipeline does not stage, at the end. -/
def endOf (c : Dev nD) : Valuation τ sig (Elt F) :=
  StableHlo.after (List.flatten [hostOps1]) (Pipeline.withArrays spec0 c (Pipeline.withR (V0 m c) RS c (G m c)) fun w => (dats m 0 c).arrAt w cfg0.N)

theorem hmainD : Pipeline.HMainK (Ix := Unit) (Name := ℕ) (U := UU nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

set_option backward.isDefEq.respectTransparency.types false in
set_option maxHeartbeats 800000 in
/-- The run: every buffer at its final contents and every counter at zero. -/
theorem run_main : θ_run defs (onTc (τ := τ) (main (F := F))) (s₀ m ρ) (fun r => (∀ c : Dev nD,
      ∀ b ∈ Pipeline.restRefs sig spec0, r.2.mem ((c : Thread nD τ).loc b) = endOf m c (Proc.devRef .tc b)) ∧ r.2.sem = fun _ => 0) :=
  Pipeline.θ_run_frame_dmaR_aroundV cfgs (dats m) (0 : Fin 1) launch0 osem defs₀ 𝒱₀ ownSemFacts HS RS (by decide) (by decide) m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := G m) (hmain := hmainD m) (hA := A_eq m) (hin := fun _ => .rfl) (hout := fun _ => .rfl)
    (Q' := _) (hQ' := fun r h => ⟨fun c => (h.1 c).2, h.2⟩)

/-! ## The arguments stay -/

theorem end_of_arg (c : Dev nD) (b : Ref sig .tc) (h1 : ∀ op ∈ List.flatten [hostOps1 (F := F)], Proc.devRef .tc b ∉ op.writes)
    (h2 : ∀ w, Pipeline.arrRef spec0 w ≠ b) (h3 : b ∉ RS) : endOf m c (Proc.devRef .tc b) = V0 m c (Proc.devRef .tc b) := by
  unfold endOf
  rw [StableHlo.after_of_forall_not_mem (b := Proc.devRef .tc b) _ _ h1, Pipeline.withArrays_of_ne _ c _ _ b h2]
  exact Pipeline.withR_of_not_mem _ _ _ _ b h3

end Run

end Cert.Proof.RunKernelIdeal

end
-- ==== Proof.Quiet.lean ====
/- The frame: the arguments end as launched, and every counter is at zero. -/
module

public import proofs.«01_k».proof.Proof.Launch

@[expose] public section

noncomputable section

namespace Cert.Proof.RunKernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

section Run
variable (m : (ℓ : Loc nD τ sig) → Buf (Elt F) ℓ) (ρ : Dev nD → PrngReg)

/-- The host operations after the region write none of the arguments. -/
theorem tail_keeps : (List.flatten [hostOps1 (F := F)]).Forall fun op =>
    Proc.devRef .tc main_arg0 ∉ op.writes ∧ Proc.devRef .tc main_arg1 ∉ op.writes ∧ Proc.devRef .tc main_arg2 ∉ op.writes := by
  simp only [hostOps1, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)

theorem end_arg0 (c : Dev nD) : endOf m c (Proc.devRef .tc main_arg0) = m ((c : Thread nD τ).loc main_arg0) :=
  (end_of_arg m c main_arg0 (fun op h => (List.forall_iff_forall_mem.mp tail_keeps op h).1)
    (by exact (by decide : ∀ w, Pipeline.arrRef spec0 w ≠ main_arg0)) (by decide)).trans (V_main_arg0 m c)
theorem end_arg1 (c : Dev nD) : endOf m c (Proc.devRef .tc main_arg1) = m ((c : Thread nD τ).loc main_arg1) :=
  (end_of_arg m c main_arg1 (fun op h => (List.forall_iff_forall_mem.mp tail_keeps op h).2.1)
    (by exact (by decide : ∀ w, Pipeline.arrRef spec0 w ≠ main_arg1)) (by decide)).trans (V_main_arg1 m c)
theorem end_arg2 (c : Dev nD) : endOf m c (Proc.devRef .tc main_arg2) = m ((c : Thread nD τ).loc main_arg2) :=
  (end_of_arg m c main_arg2 (fun op h => (List.forall_iff_forall_mem.mp tail_keeps op h).2.2)
    (by exact (by decide : ∀ w, Pipeline.arrRef spec0 w ≠ main_arg2)) (by decide)).trans (V_main_arg2 m c)

/-- The frame: the run ends, its arguments as launched, every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(h.1 c main_arg0 (Pipeline.mem_restRefs_of main_arg0 (by decide) (by decide))).trans (end_arg0 m c),
      (h.1 c main_arg1 (Pipeline.mem_restRefs_of main_arg1 (by decide) (by decide))).trans (end_arg1 m c),
      (h.1 c main_arg2 (Pipeline.mem_restRefs_of main_arg2 (by decide) (by decide))).trans (end_arg2 m c)⟩, h.2⟩) (run_main m ρ)

end Run

end Cert.Proof.RunKernelIdeal

end
-- ==== Proof.Same.lean ====
/- The kernel and its idealized printing are the same program text: the frame carries over. -/
module

public import proofs.«01_k».proof.Proof.Quiet
public import proofs.«01_k».proof.Proof.Gen.Kernel.Frame
public import proofs.«01_k».proof.Defs

@[expose] public section

noncomputable section

namespace Cert.Proof

open Idealize.ShloMosaic Idealize.SL.Sem

/-- The two body tables agree at every label. -/
theorem same_defs₀ : (Cert.Kernel.defs₀ (F := Bits)) = (Cert.KernelIdeal.defs₀ (F := Bits)) := by
  unfold Cert.Kernel.defs₀ Cert.KernelIdeal.defs₀
  refine congrArg Defs.onTc (funext fun l => funext fun a => ?_)
  match l, a with
  | 0, (t, s) => rfl

theorem same_defs : (Cert.Kernel.defs (F := Bits)) = (Cert.KernelIdeal.defs (F := Bits)) :=
  congrArg (fun d => Pipeline.defs Cert.KernelIdeal.pcfgs d) same_defs₀

theorem same_main : (Cert.Kernel.main (F := Bits)) = (Cert.KernelIdeal.main (F := Bits)) := rfl

/-- The frame at the machine's words. -/
theorem quiet_Kernel : Cert.quiescent_Kernel (hKernel := Cert.Kernel.Gen.facts) := fun m g _ => by
  rw [same_defs, same_main]
  exact Cert.Proof.RunKernelIdeal.quiet (F := Bits) m g

end Cert.Proof

end
-- ==== Proof.Scale.lean ====
/- The power of two above a magnitude: eight bisection steps on the exponent field agree with the rounded down logarithm. -/
module

public import Idealize.ShloMosaic.Lib.IdealHost

@[expose] public section

noncomputable section

namespace Cert.Proof.Scale

open Idealize.ShloMosaic

/-- The value of the word whose exponent field starts at the bits of `x`. -/
def wrd (x : BitVec 32) : Ideal .f32 := Scalar.ofBits .f32 (Scalar.shli x 23#32)

/-- One bisection step: raise `x` by `d` where the raised word is still at most `v`. -/
def nxt (v : Ideal .f32) (x d : BitVec 32) : BitVec 32 :=
  Scalar.select (Scalar.cmpf .ole (wrd (Scalar.addi x d)) v) (Scalar.addi x d) x

/-- The eight steps. -/
def srch (v : Ideal .f32) : BitVec 32 :=
  nxt v (nxt v (nxt v (nxt v (nxt v (nxt v (nxt v (nxt v 0#32 128#32) 64#32) 32#32) 16#32) 8#32) 4#32) 2#32) 1#32

/-- The exponent after the eight steps. -/
def expo (v : Ideal .f32) : BitVec 32 :=
  Scalar.select (Scalar.cmpi .eq (srch v) 0#32) 0#32 (Scalar.subi (srch v) 126#32)

/-- The scale the kernel stores. -/
def kScale (v : Ideal .f32) : Ideal .f32 := wrd (Scalar.addi (expo v) 127#32)
/-- The factor the kernel multiplies by. -/
def kInv (v : Ideal .f32) : Ideal .f32 := wrd (Scalar.addi (Scalar.subi 0#32 (expo v)) 127#32)

/-- The exponent by logarithm. -/
def rExp (v : Ideal .f32) : Ideal .f32 :=
  Scalar.select (Scalar.cmpf .olt v (Scalar.ofBits .f32 0x00800000#32)) (Scalar.ofBits .f32 0x00000000#32)
    (Scalar.addf (Scalar.floor (Scalar.divf (Scalar.log v) (Scalar.log (Scalar.ofBits .f32 0x40000000#32))))
      (Scalar.ofBits .f32 0x3F800000#32))
/-- The scale of the reference. -/
def rScale (v : Ideal .f32) : Ideal .f32 :=
  Scalar.select (Scalar.cmpf .oeq v (Scalar.ofBits .f32 0x7F800000#32)) (Scalar.ofBits .f32 0x00000000#32)
    (Scalar.select (Scalar.cmpf .oge v (Scalar.ofBits .f32 0x7F000000#32)) (Scalar.ofBits .f32 0x7F800000#32)
      (Scalar.exp2 (rExp v)))
/-- The factor of the reference. -/
def rInv (v : Ideal .f32) : Ideal .f32 :=
  Scalar.select (Scalar.cmpf .oeq v (Scalar.ofBits .f32 0x7F800000#32)) (Scalar.ofBits .f32 0xFF000000#32)
    (Scalar.select (Scalar.cmpf .oge v (Scalar.ofBits .f32 0x7F000000#32)) (Scalar.ofBits .f32 0xFF800000#32)
      (Scalar.select (Scalar.cmpf .oge v (Scalar.ofBits .f32 0x7E800000#32)) (Scalar.ofBits .f32 0x00000000#32)
        (Scalar.exp2 (Scalar.subf (Scalar.ofBits .f32 0x00000000#32) (rExp v)))))

/-! ## Choice and comparison -/

theorem cmpf_eq (p : CmpFPredicate) (x y : Ideal .f32) : Scalar.cmpf p x y = Ideal.cmp p x y := rfl

section
variable {α : Type} {x y : EReal} (a b : α)
theorem ole_pos (h : x ≤ y) : Scalar.select (Scalar.cmpf (F := Ideal) (φ := .f32) .ole x y) a b = a := by
  rw [cmpf_eq]; simp [Scalar.select, Ideal.cmp, h]
theorem ole_neg (h : ¬ x ≤ y) : Scalar.select (Scalar.cmpf (F := Ideal) (φ := .f32) .ole x y) a b = b := by
  rw [cmpf_eq]; simp [Scalar.select, Ideal.cmp, h]
theorem oge_pos (h : y ≤ x) : Scalar.select (Scalar.cmpf (F := Ideal) (φ := .f32) .oge x y) a b = a := by
  rw [cmpf_eq]; simp [Scalar.select, Ideal.cmp, h]
theorem oge_neg (h : ¬ y ≤ x) : Scalar.select (Scalar.cmpf (F := Ideal) (φ := .f32) .oge x y) a b = b := by
  rw [cmpf_eq]; simp [Scalar.select, Ideal.cmp, h]
theorem olt_pos (h : x < y) : Scalar.select (Scalar.cmpf (F := Ideal) (φ := .f32) .olt x y) a b = a := by
  rw [cmpf_eq]; simp [Scalar.select, Ideal.cmp, h]
theorem olt_neg (h : ¬ x < y) : Scalar.select (Scalar.cmpf (F := Ideal) (φ := .f32) .olt x y) a b = b := by
  rw [cmpf_eq]; simp [Scalar.select, Ideal.cmp, h]
theorem oeq_pos (h : x = y) : Scalar.select (Scalar.cmpf (F := Ideal) (φ := .f32) .oeq x y) a b = a := by
  rw [cmpf_eq]; simp [Scalar.select, Ideal.cmp, h]
theorem oeq_neg (h : ¬ x = y) : Scalar.select (Scalar.cmpf (F := Ideal) (φ := .f32) .oeq x y) a b = b := by
  rw [cmpf_eq]; simp [Scalar.select, Ideal.cmp, h]
end

/-! ## The words -/

/-- The word of the natural number `n`. -/
def W (n : ℕ) : EReal := wrd (BitVec.ofNat 32 n)

theorem fields : ∀ n : Fin 256,
    BitVec.extractLsb' 31 1 (Scalar.shli (BitVec.ofNat 32 n) 23#32) = 0#1
    ∧ (BitVec.extractLsb' 23 8 (Scalar.shli (BitVec.ofNat 32 n) 23#32)).toNat = n
    ∧ (BitVec.extractLsb' 0 23 (Scalar.shli (BitVec.ofNat 32 n) 23#32)).toNat = 0 := by
  decide +kernel

theorem W_def (n : ℕ) : W n = Ideal.ieee 8 23 (w := 32) (Scalar.shli (BitVec.ofNat 32 n) 23#32) := rfl

theorem W_mid (n : ℕ) (h1 : 1 ≤ n) (h2 : n ≤ 254) : W n = (((2:ℝ) ^ ((n : ℤ) - 127) : ℝ) : EReal) := by
  have := fields ⟨n, by omega⟩
  dsimp only at this
  rw [W_def]
  generalize Scalar.shli (BitVec.ofNat 32 n) 23#32 = q at this
  obtain ⟨a, b, c⟩ := this
  unfold Ideal.ieee
  simp only [Nat.reduceAdd, a, b, c]
  rw [if_neg (by omega), if_neg (by omega)]
  congr 1
  rw [show (n : ℤ) - 127 = 23 + ((n : ℤ) - 127 - 23) by ring, zpow_add₀ (by norm_num)]
  norm_num

theorem W_top : W 255 = ⊤ := by
  have := fields ⟨255, by omega⟩
  dsimp only at this
  rw [W_def]
  generalize Scalar.shli (BitVec.ofNat 32 255) 23#32 = q at this
  obtain ⟨a, b, c⟩ := this
  unfold Ideal.ieee
  simp only [Nat.reduceAdd, a, b, c]
  simp

theorem W_zero : W 0 = 0 := Ideal.ofBits_zero_f32

/-! ## The bisection -/

/-- What holds when `2 ^ b` candidates are left. -/
def Inv (v : EReal) (b : ℕ) (x : BitVec 32) : Prop :=
  ∃ n : ℕ, x = BitVec.ofNat 32 n ∧ n + 2 ^ b ≤ 256 ∧ (n = 0 ∨ W n ≤ v) ∧ (n + 2 ^ b = 256 ∨ v < W (n + 2 ^ b))

theorem step {v : EReal} {b : ℕ} {x d : BitVec 32} (h : Inv v (b + 1) x) (hd : d = BitVec.ofNat 32 (2 ^ b)) :
    Inv v b (nxt v x d) := by
  obtain ⟨n, rfl, h1, h2, h3⟩ := h
  subst hd
  have e : Scalar.addi (BitVec.ofNat 32 n) (BitVec.ofNat 32 (2 ^ b)) = BitVec.ofNat 32 (n + 2 ^ b) :=
    (BitVec.ofNat_add n (2 ^ b)).symm
  have p : 2 ^ (b + 1) = 2 ^ b + 2 ^ b := by rw [pow_succ]; ring
  have q : 0 < 2 ^ b := by positivity
  unfold nxt
  rw [e]
  change Inv v b (Scalar.select (Scalar.cmpf (F := Ideal) (φ := .f32) .ole (W (n + 2 ^ b)) v) (BitVec.ofNat 32 (n + 2 ^ b)) (BitVec.ofNat 32 n))
  by_cases c : W (n + 2 ^ b) ≤ v
  · rw [ole_pos _ _ c]
    refine ⟨n + 2 ^ b, rfl, by omega, .inr c, ?_⟩
    rw [p, ← Nat.add_assoc] at h3
    exact h3
  · rw [ole_neg _ _ c]
    exact ⟨n, rfl, by omega, h2, .inr (not_le.mp c)⟩

/-- The result of the eight steps: the last exponent whose power is at most `v`. -/
theorem srch_spec (v : EReal) : ∃ n : ℕ, srch v = BitVec.ofNat 32 n ∧ n < 256 ∧ (n = 0 ∨ W n ≤ v) ∧ (n = 255 ∨ v < W (n + 1)) := by
  have h0 : Inv v 8 0#32 := ⟨0, rfl, by norm_num, .inl rfl, .inl rfl⟩
  obtain ⟨n, a, b, c, d⟩ := step (step (step (step (step (step (step (step h0 rfl) rfl) rfl) rfl) rfl) rfl) rfl) rfl
  exact ⟨n, a, by omega, c, d.imp (by omega) id⟩

/-! ## The two exponents -/

theorem words : ∀ n : Fin 256, n ≠ 0 →
    Scalar.addi (Scalar.select (Scalar.cmpi .eq (BitVec.ofNat 32 n) 0#32) 0#32 (Scalar.subi (BitVec.ofNat 32 n) 126#32)) 127#32
      = BitVec.ofNat 32 (n + 1)
    ∧ Scalar.addi (Scalar.subi 0#32 (Scalar.select (Scalar.cmpi .eq (BitVec.ofNat 32 n) 0#32) 0#32 (Scalar.subi (BitVec.ofNat 32 n) 126#32))) 127#32
      = BitVec.ofInt 32 (253 - (n : ℕ)) := by
  decide +kernel

theorem two : (Scalar.ofBits .f32 0x40000000#32 : Ideal .f32) = ((2 : ℝ) : EReal) := by
  refine (show _ = W 128 from rfl).trans ?_
  rw [W_mid 128 (by norm_num) (by norm_num)]
  norm_num

theorem one' : (Scalar.ofBits .f32 0x3F800000#32 : Ideal .f32) = ((1 : ℝ) : EReal) := by
  refine (show _ = W 127 from rfl).trans ?_
  rw [W_mid 127 (by norm_num) (by norm_num)]
  norm_num

theorem zero' : (Scalar.ofBits .f32 0x00000000#32 : Ideal .f32) = ((0 : ℝ) : EReal) :=
  Ideal.ofBits_zero_f32.trans (by simp)

theorem floor_log (r : ℝ) (k : ℤ) (h1 : (2:ℝ) ^ k ≤ r) (h2 : r < (2:ℝ) ^ (k + 1)) : ⌊Real.log r * (1 / Real.log 2)⌋ = k := by
  have l2 : 0 < Real.log 2 := Real.log_pos (by norm_num)
  have p : (0:ℝ) < 2 ^ k := by positivity
  rw [mul_one_div, Int.floor_eq_iff, le_div_iff₀ l2, div_lt_iff₀ l2]
  constructor
  · rw [← Real.log_zpow]; exact Real.log_le_log p h1
  · have : ((k : ℝ) + 1) = ((k + 1 : ℤ) : ℝ) := by push_cast; ring
    rw [this, ← Real.log_zpow]; exact Real.log_lt_log (p.trans_le h1) h2

theorem exp_mid (r : ℝ) (k : ℤ) (hk : -126 ≤ k) (h1 : (2:ℝ) ^ k ≤ r) (h2 : r < (2:ℝ) ^ (k + 1)) :
    rExp ((r : ℝ) : EReal) = (((k + 1 : ℤ) : ℝ) : EReal) := by
  have p : (0:ℝ) < 2 ^ k := by positivity
  have l2 : 0 < Real.log 2 := Real.log_pos (by norm_num)
  unfold rExp
  have w1 : (Scalar.ofBits .f32 0x00800000#32 : Ideal .f32) = W 1 := rfl
  have n1 : ¬ ((r : ℝ) : EReal) < W 1 := by
    rw [W_mid 1 le_rfl (by norm_num), EReal.coe_lt_coe_iff, not_lt]
    exact (zpow_le_zpow_right₀ (by norm_num) (by simpa using hk)).trans h1
  rw [w1, olt_neg _ _ n1, two, one']
  change Ideal.liftRound Int.floor (Ideal.div (Ideal.log ((r : ℝ) : EReal)) (Ideal.log ((2 : ℝ) : EReal))) + ((1 : ℝ) : EReal) = _
  have e1 : Ideal.log ((r : ℝ) : EReal) = ((Real.log r : ℝ) : EReal) := if_neg (not_le.mpr (p.trans_le h1))
  have e2 : Ideal.log ((2 : ℝ) : EReal) = ((Real.log 2 : ℝ) : EReal) := if_neg (by norm_num)
  rw [e1, e2, Ideal.div_coe l2.ne', ← EReal.coe_mul]
  change (((⌊Real.log r * (1 / Real.log 2)⌋ : ℤ) : ℝ) : EReal) + _ = _
  rw [floor_log r k h1 h2, ← EReal.coe_add]
  norm_num

theorem exp2_int (k : ℤ) : (Scalar.exp2 (((k : ℝ) : EReal) : Ideal .f32) : Ideal .f32) = (((2:ℝ) ^ k : ℝ) : EReal) := by
  change ((Real.rpow 2 (k : ℝ) : ℝ) : EReal) = _
  exact congrArg _ (Real.rpow_intCast 2 k)

theorem W_le {m n : ℕ} (h1 : 1 ≤ m) (h : m ≤ n) (h2 : n ≤ 255) : W m ≤ W n := by
  by_cases e : n = 255
  · subst e; rw [W_top]; exact le_top
  · rw [W_mid m h1 (by omega), W_mid n (by omega) (by omega), EReal.coe_le_coe_iff]
    exact zpow_le_zpow_right₀ (by norm_num) (by omega)

theorem c254 : (Scalar.ofBits .f32 0x7F000000#32 : Ideal .f32) = W 254 := rfl
theorem c253 : (Scalar.ofBits .f32 0x7E800000#32 : Ideal .f32) = W 253 := rfl
theorem c255 : (Scalar.ofBits .f32 0x7F800000#32 : Ideal .f32) = W 255 := rfl

/-- The two scales agree, and so do the two factors. -/
theorem both (v : EReal) : kScale v = rScale v ∧ kInv v = rInv v := by
  obtain ⟨n, e, hn, h1, h2⟩ := srch_spec v
  unfold kScale kInv expo rScale rInv
  rw [e, c254, c253, c255]
  by_cases n0 : n = 0
  · subst n0
    have lt : v < W 1 := h2.resolve_left (by norm_num)
    have a1 : ¬ v = W 255 := (lt.trans_le (W_le le_rfl (by norm_num) (by norm_num))).ne
    have a2 : ¬ W 254 ≤ v := (lt.trans_le (W_le le_rfl (by norm_num) (by norm_num))).not_ge
    have a3 : ¬ W 253 ≤ v := (lt.trans_le (W_le le_rfl (by norm_num) (by norm_num))).not_ge
    have x0 : rExp v = (((0 : ℤ) : ℝ) : EReal) := by
      unfold rExp
      rw [show (Scalar.ofBits .f32 0x00800000#32 : Ideal .f32) = W 1 from rfl, olt_pos _ _ lt, zero']
      simp
    have w : W 127 = (((2:ℝ) ^ (0 : ℤ) : ℝ) : EReal) := by
      rw [W_mid 127 (by norm_num) (by norm_num)]; norm_num
    rw [oeq_neg _ _ a1, oge_neg _ _ a2, oeq_neg _ _ a1, oge_neg _ _ a2, oge_neg _ _ a3, x0, exp2_int, zero']
    refine ⟨w, w.trans ?_⟩
    rw [show (Scalar.subf ((0 : ℝ) : EReal) (((0 : ℤ) : ℝ) : EReal) : Ideal .f32) = (((0 : ℤ) : ℝ) : EReal) from
      (EReal.coe_sub _ _).symm.trans (by norm_num), exp2_int]
  · obtain ⟨k1, k2⟩ := words ⟨n, hn⟩ (by simpa [Fin.ext_iff] using n0)
    simp only at k1 k2
    rw [k1, k2]
    have ge : W n ≤ v := h1.resolve_left n0
    change W (n + 1) = _ ∧ _
    by_cases t : n = 255
    · subst t
      have v1 : v = W 255 := by rw [W_top] at ge ⊢; exact top_le_iff.mp ge
      rw [oeq_pos _ _ v1, oeq_pos _ _ v1]
      refine ⟨?_, rfl⟩
      refine Eq.trans ?_ zero'.symm
      change Ideal.ieee 8 23 (w := 32) 0x80000000#32 = _
      simp [Ideal.ieee]
    have lt : v < W (n + 1) := h2.resolve_left t
    have a1 : ¬ v = W 255 := (lt.trans_le (W_le (by omega) (by omega) le_rfl)).ne
    rw [oeq_neg _ _ a1, oeq_neg _ _ a1]
    by_cases t4 : n = 254
    · subst t4
      rw [oge_pos _ _ ge, oge_pos _ _ ge]
      exact ⟨rfl, rfl⟩
    have a2 : ¬ W 254 ≤ v := (lt.trans_le (W_le (by omega) (by omega) (by norm_num))).not_ge
    rw [oge_neg _ _ a2, oge_neg _ _ a2]
    obtain ⟨r, rfl⟩ : ∃ r : ℝ, v = (r : EReal) := by
      refine ⟨v.toReal, (EReal.coe_toReal ?_ ?_).symm⟩
      · exact (lt.trans_le le_top).ne
      · refine (lt_of_lt_of_le ?_ ge).ne'
        rw [W_mid n (by omega) (by omega)]; exact EReal.bot_lt_coe _
    have x0 : rExp ((r : ℝ) : EReal) = ((((n : ℤ) - 127 + 1 : ℤ) : ℝ) : EReal) := by
      refine exp_mid r _ (by omega) ?_ ?_
      · rw [W_mid n (by omega) (by omega), EReal.coe_le_coe_iff] at ge; exact ge
      · rw [W_mid (n + 1) (by omega) (by omega), EReal.coe_lt_coe_iff] at lt
        refine lt.trans_eq (congrArg _ ?_); push_cast; ring
    rw [x0, exp2_int]
    refine ⟨?_, ?_⟩
    · rw [W_mid (n + 1) (by omega) (by omega)]
      congr 2; push_cast; ring
    by_cases t3 : n = 253
    · subst t3
      rw [oge_pos _ _ ge]
      rfl
    have a3 : ¬ W 253 ≤ ((r : ℝ) : EReal) := (lt.trans_le (W_le (by omega) (by omega) (by norm_num))).not_ge
    rw [oge_neg _ _ a3, zero']
    rw [show (Scalar.subf ((0 : ℝ) : EReal) ((((n : ℤ) - 127 + 1 : ℤ) : ℝ) : EReal) : Ideal .f32) = (((-((n : ℤ) - 127 + 1) : ℤ) : ℝ) : EReal) from
      (EReal.coe_sub _ _).symm.trans (by push_cast; norm_num), exp2_int]
    rw [show BitVec.ofInt 32 (253 - ((n : ℕ) : ℤ)) = BitVec.ofNat 32 (253 - n) by
      rw [show (253 - ((n : ℕ) : ℤ)) = ((253 - n : ℕ) : ℤ) by omega]; exact BitVec.ofInt_natCast _ _]
    change W (253 - n) = _
    rw [W_mid (253 - n) (by omega) (by omega)]
    congr 2
    omega

theorem kScale_eq (v : Ideal .f32) : kScale v = rScale v := (both v).1
theorem kInv_eq (v : Ideal .f32) : kInv v = rInv v := (both v).2

end Cert.Proof.Scale

end
-- ==== Proof.Chain.lean ====
/- The scales the kernel computes are those of the bisection. -/
module

public import proofs.«01_k».proof.Proof.Body
public import proofs.«01_k».proof.Proof.Scale

@[expose] public section

noncomputable section

namespace Cert.Proof.RunKernelIdeal

open Cert.KernelIdeal Cert.KernelIdeal.Gen
open Idealize.ShloMosaic
open Cert.Proof.Scale

/-- The first steps of the bisection, by number. -/
def b1 (v : Ideal .f32) : BitVec 32 := nxt v 0#32 128#32
def b2 (v : Ideal .f32) : BitVec 32 := nxt v (b1 v) 64#32
def b3 (v : Ideal .f32) : BitVec 32 := nxt v (b2 v) 32#32
def b4 (v : Ideal .f32) : BitVec 32 := nxt v (b3 v) 16#32
def b5 (v : Ideal .f32) : BitVec 32 := nxt v (b4 v) 8#32
def b6 (v : Ideal .f32) : BitVec 32 := nxt v (b5 v) 4#32
def b7 (v : Ideal .f32) : BitVec 32 := nxt v (b6 v) 2#32

section
variable (v : Ideal .f32)
theorem p11 : k0_pay11 (F := Ideal) (Scalar.addi 0#32 128#32) (Scalar.cmpf .ole (k0_pay10 (F := Ideal)) v) = wrd (Scalar.addi (b1 v) 64#32) := by
  unfold k0_pay11
  rfl
theorem p12 : k0_pay12 (F := Ideal) v (Scalar.addi 0#32 128#32) (Scalar.cmpf .ole (k0_pay10 (F := Ideal)) v) = wrd (Scalar.addi (b2 v) 32#32) := by
  unfold k0_pay12
  rw [p11]
  rfl
theorem p13 : k0_pay13 (F := Ideal) v (Scalar.addi 0#32 128#32) (Scalar.cmpf .ole (k0_pay10 (F := Ideal)) v) = wrd (Scalar.addi (b3 v) 16#32) := by
  unfold k0_pay13
  rw [p11, p12]
  rfl
theorem p14 : k0_pay14 (F := Ideal) v (Scalar.addi 0#32 128#32) (Scalar.cmpf .ole (k0_pay10 (F := Ideal)) v) = wrd (Scalar.addi (b4 v) 8#32) := by
  unfold k0_pay14
  rw [p11, p12, p13]
  rfl
theorem p15 : k0_pay15 (F := Ideal) v (Scalar.addi 0#32 128#32) (Scalar.cmpf .ole (k0_pay10 (F := Ideal)) v) = wrd (Scalar.addi (b5 v) 4#32) := by
  unfold k0_pay15
  rw [p11, p12, p13, p14]
  rfl
theorem p16 : k0_pay16 (F := Ideal) v (Scalar.addi 0#32 128#32) (Scalar.cmpf .ole (k0_pay10 (F := Ideal)) v) = wrd (Scalar.addi (b6 v) 2#32) := by
  unfold k0_pay16
  rw [p11, p12, p13, p14, p15]
  rfl
theorem p17 : k0_pay17 (F := Ideal) v (Scalar.addi 0#32 128#32) (Scalar.cmpf .ole (k0_pay10 (F := Ideal)) v) = wrd (Scalar.addi (b7 v) 1#32) := by
  unfold k0_pay17
  rw [p11, p12, p13, p14, p15, p16]
  rfl
theorem S4_eq : S4 (F := Ideal) v (Scalar.addi 0#32 128#32) (Scalar.cmpf .ole (k0_pay10 (F := Ideal)) v) = ⟨expo v, Scalar.addi (expo v) 127#32, 23#32⟩ := by
  unfold S4
  rw [p11, p12, p13, p14, p15, p16, p17]
  rfl
end

section
variable (y : FVec Ideal S1024x3072 .f32)
theorem p28 : k0_pay28 (F := Ideal) y = wrd (Scalar.addi (b1 (k0_pay26 y)) 64#32) := by
  unfold k0_pay28
  rfl
theorem p29 : k0_pay29 (F := Ideal) y = wrd (Scalar.addi (b2 (k0_pay26 y)) 32#32) := by
  unfold k0_pay29
  rw [p28]
  rfl
theorem p30 : k0_pay30 (F := Ideal) y = wrd (Scalar.addi (b3 (k0_pay26 y)) 16#32) := by
  unfold k0_pay30
  rw [p28, p29]
  rfl
theorem p31 : k0_pay31 (F := Ideal) y = wrd (Scalar.addi (b4 (k0_pay26 y)) 8#32) := by
  unfold k0_pay31
  rw [p28, p29, p30]
  rfl
theorem p32 : k0_pay32 (F := Ideal) y = wrd (Scalar.addi (b5 (k0_pay26 y)) 4#32) := by
  unfold k0_pay32
  rw [p28, p29, p30, p31]
  rfl
theorem p33 : k0_pay33 (F := Ideal) y = wrd (Scalar.addi (b6 (k0_pay26 y)) 2#32) := by
  unfold k0_pay33
  rw [p28, p29, p30, p31, p32]
  rfl
theorem S6_eq : S6 (F := Ideal) y = ⟨k0_pay25 y, k0_pay26 y, b6 (k0_pay26 y), Scalar.addi (b6 (k0_pay26 y)) 2#32, wrd (Scalar.addi (b6 (k0_pay26 y)) 2#32)⟩ := by
  unfold S6
  rw [p28, p29, p30, p31, p32, p33]
  rfl
end

theorem pay1_eq (v : Ideal .f32) : k0_pay1 (F := Ideal) v (b6 v) (Scalar.addi (b6 v) 2#32) (wrd (Scalar.addi (b6 v) 2#32)) = kScale v := rfl

end Cert.Proof.RunKernelIdeal

end
-- ==== Proof.MaxAll.lean ====
/- The largest magnitude, block by block, is the largest magnitude of the whole array. -/
module

public import proofs.«01_k».proof.Proof.Chain

@[expose] public section

noncomputable section

namespace Cert.Proof

open Idealize.ShloMosaic

/-- The magnitude. -/
def ab (x : EReal) : EReal := max x (-x)

theorem ab_nonneg (x : EReal) : 0 ≤ ab x := by
  unfold ab
  rcases le_total 0 x with h | h
  · exact le_max_of_le_left h
  · exact le_max_of_le_right (by simpa using EReal.neg_le_neg_iff.mpr h)

/-- A maximum over two axes is at most `a` exactly when every element is. -/
theorem red_le {s t : Shape} {axes : List (Fin s.rank)} (src : FVec Ideal s .f32) (h : s.Reduces axes t) (hφ : FKind.Formats .f32)
    (hacc : 0xFF800000#32 = FKind.maximumf.neutral .f32 hφ) (hj : ∀ x y : t.Idx, x = y) (j : t.Idx) (a : EReal) :
    (multiReduction .maximumf axes t src 0xFF800000#32 h hφ hacc j : EReal) ≤ a ↔ ∀ i, (src i : EReal) ≤ a := by
  rw [multiReduction_maximumf_eq_fold]
  have hb : (FloatOps.ofBits (F := Ideal) .f32 0xFF800000#32 : EReal) = ⊥ := by
    change Ideal.ieee 8 23 (w := 32) 0xFF800000#32 = ⊥
    simp [Ideal.ieee]
  change Finset.fold max (FloatOps.ofBits (F := Ideal) .f32 0xFF800000#32 : EReal) src _ ≤ a ↔ _
  rw [Finset.fold_max_le, hb]
  simp only [bot_le, true_and, Finset.mem_filter, Finset.mem_univ]
  exact ⟨fun H i => H i (hj _ _), fun H i _ => H i⟩

/-- Re-indexing keeps the bound. -/
theorem cast_le {s t : Shape} (src : s.Idx → EReal) (h : s.ShapeCasts t) (a : EReal) :
    (∀ i, shapeCast t src h i ≤ a) ↔ ∀ i, src i ≤ a := by
  unfold shapeCast
  exact ⟨fun H i => by simpa using H ((Shape.reshapeEquiv h).symm i), fun H i => H _⟩

/-- So it is the least upper bound. -/
theorem top_eq {s u t : Shape} {axes : List (Fin u.rank)} (src : FVec Ideal s .f32) (hc : s.ShapeCasts u) (h : u.Reduces axes t) (hφ : FKind.Formats .f32)
    (hacc : 0xFF800000#32 = FKind.maximumf.neutral .f32 hφ) (hj : ∀ x y : t.Idx, x = y) (j : t.Idx) (M : EReal)
    (hM : ∀ a, M ≤ a ↔ ∀ z, (src z : EReal) ≤ a) :
    multiReduction .maximumf axes t (shapeCast u src hc) 0xFF800000#32 h hφ hacc j = M := by
  refine le_antisymm (α := EReal) ?_ ?_
  · rw [red_le _ _ _ _ hj]
    exact (cast_le (src : s.Idx → EReal) hc M).2 ((hM M).1 le_rfl)
  · rw [hM]
    exact (cast_le (src : s.Idx → EReal) hc _).1 ((red_le _ _ _ _ hj _ _).1 le_rfl)

/-- The one element read out of a re-indexed vector is one of the vector. -/
theorem extract_cast {α : Type} {s t : Shape} (v : s.Idx → α) (h : s.ShapeCasts t) (p : Fin t.rank → ℕ) (hp : ∀ a, p a < t.size a) :
    ∃ j, extractAt p (shapeCast t v h) hp = v j := ⟨_, rfl⟩

theorem one_idx (x y : (⟨1, ![1]⟩ : Shape).Idx) : x = y := by
  funext i; apply Fin.ext
  have hx : (x i).val < 1 := lt_of_lt_of_le (x i).isLt (by fin_cases i; decide)
  have hy : (y i).val < 1 := lt_of_lt_of_le (y i).isLt (by fin_cases i; decide)
  omega

end Cert.Proof

namespace Cert.Proof.RunKernelIdeal

open Cert.KernelIdeal Cert.KernelIdeal.Gen
open Idealize.ShloMosaic
open Idealize.ShloMosaic.TcCoe
open Idealize.ShloMosaic.ValueIdx
open Cert.Proof.Scale

section
variable (c : Dev nD) (XA : Buf (Elt Ideal) (xM.view.loc (c : Thread nD τ)))

/-- `x` by index. -/
def xat (z : S1024x16384.Idx) : EReal := (XA : S1024x16384.Idx → Elt Ideal .bf16) z

theorem trips3 : k0_t3_loop.trips = 16 := by decide +kernel
theorem trips2 : k0_t2_loop.trips = 16 := by decide +kernel

/-- Row `a` of the sixteen rows read at trip `r`, place `j`, of slot `k`. -/
def xrow (k r j : ℕ) (y : S16x1024.Idx) : EReal :=
  if h : k < 16 ∧ r < 16 ∧ j < 4 then
    xat c XA (ix2 (⟨64 * r + 16 * j + (y 0).val, by have h0 : (y 0).val < 16 := (y 0).isLt; omega⟩ : Fin 1024)
      (⟨1024 * k + (y 1).val, by have h1 : (y 1).val < 1024 := (y 1).isLt; omega⟩ : Fin 16384))
  else 0

theorem rows3_at (k2 : Fin k0_t2_loop.trips) (k3 : Fin k0_t3_loop.trips) (j : Fin 4) (y : S16x1024.Idx) :
    rows3 c (XBof c XA) k2 k3 j (Fin.cons ⟨0, Nat.one_pos⟩ y) = xrow c XA k2.val k3.val j.val y := by
  have h2 := t2_lt k2
  have h3 := t3_lt k3
  have hj := j.isLt
  unfold xrow
  rw [dif_pos ⟨h2, h3, hj⟩]
  have key : ∀ (off : Fin 3 → ℕ) (hb : ∀ a, off a + S1x16x1024.size a ≤ S16x1024x1024.size a), off = ![k2.val, 64 * k3.val + 16 * j.val, 0] →
      bufM.view.readAt (Elt Ideal) (Rect.unit (s := S16x1024x1024) off S1x16x1024.size hb).toLoadRect (XBof c XA) (Fin.cons ⟨0, Nat.one_pos⟩ y)
        = xat c XA (ix2 (⟨64 * k3.val + 16 * j.val + (y 0).val, by have h0 : (y 0).val < 16 := (y 0).isLt; omega⟩ : Fin 1024)
      (⟨1024 * k2.val + (y 1).val, by have h1 : (y 1).val < 1024 := (y 1).isLt; omega⟩ : Fin 16384)) := by
    intro off hb e
    subst e
    refine congrArg (XA : S1024x16384.Idx → Elt Ideal .bf16) ?_
    funext a; apply Fin.ext
    match a with
    | 0 => show 64 * k3.val + 16 * j.val + 1 * (y 0).val = _; rw [Nat.one_mul]
    | 1 => show 1024 * (k2.val + 1 * 0) + (0 + 1 * (y 1).val) = 1024 * k2.val + (y 1).val; omega
  exact key _ _ (k0_off7_eq k2 k3 j)

theorem pay8_le (A : Vec Ideal S16x1024 .bf16) (r0 r1 r2 r3 : Vec Ideal S1x16x1024 .bf16) (y : S16x1024.Idx) (a : EReal) :
    (k0_pay8 A r0 r1 r2 r3 y : EReal) ≤ a ↔ (A y : EReal) ≤ a ∧ ab (r0 (Fin.cons ⟨0, Nat.one_pos⟩ y)) ≤ a ∧ ab (r1 (Fin.cons ⟨0, Nat.one_pos⟩ y)) ≤ a
      ∧ ab (r2 (Fin.cons ⟨0, Nat.one_pos⟩ y)) ≤ a ∧ ab (r3 (Fin.cons ⟨0, Nat.one_pos⟩ y)) ≤ a := by
  have e : ∀ r : Vec Ideal S1x16x1024 .bf16, shapeCast S16x1024 r shapeCasts_S1x16x1024_S16x1024 y = r (Fin.cons ⟨0, Nat.one_pos⟩ y) :=
    fun r => shapeCast_dropUnit_apply ![16, 1024] r shapeCasts_S1x16x1024_S16x1024 y
  unfold k0_pay8
  rw [shapeCast_self]
  change max (max (max (max (A y : EReal) (ab (shapeCast S16x1024 r0 _ y))) (ab (shapeCast S16x1024 r1 _ y))) (ab (shapeCast S16x1024 r2 _ y))) (ab (shapeCast S16x1024 r3 _ y)) ≤ a ↔ _
  rw [e, e, e, e]
  simp only [max_le_iff, and_assoc]

theorem AM3_le (k2 : Fin k0_t2_loop.trips) (a0 : Vec Ideal S16x1024 .bf16) (y : S16x1024.Idx) (a : EReal) (n : ℕ) (hn : n ≤ 16) :
    (AM3 c (XBof c XA) k2 a0 n y : EReal) ≤ a ↔ (a0 y : EReal) ≤ a ∧ ∀ r < n, ∀ j < 4, ab (xrow c XA k2.val r j y) ≤ a := by
  induction n with
  | zero => exact ⟨fun h => ⟨h, fun r hr => absurd hr (Nat.not_lt_zero r)⟩, fun h => h.1⟩
  | succ n ih =>
    have hn' : n < k0_t3_loop.trips := by rw [trips3]; omega
    rw [show AM3 c (XBof c XA) k2 a0 (n + 1) = _ from AM3_succ c (XBof c XA) k2 a0 ⟨n, hn'⟩, pay8_le, ih (by omega),
      rows3_at, rows3_at, rows3_at, rows3_at]
    constructor
    · rintro ⟨⟨h0, h1⟩, q0, q1, q2, q3⟩
      refine ⟨h0, fun r hr j hj => ?_⟩
      by_cases e : r = n
      · subst e
        match j, hj with
        | 0, _ => exact q0
        | 1, _ => exact q1
        | 2, _ => exact q2
        | 3, _ => exact q3
      · exact h1 r (by omega) j hj
    · rintro ⟨h0, h1⟩
      exact ⟨⟨h0, fun r hr => h1 r (by omega)⟩, h1 n (by omega) 0 (by omega), h1 n (by omega) 1 (by omega),
        h1 n (by omega) 2 (by omega), h1 n (by omega) 3 (by omega)⟩

theorem AM2_le (y : S16x1024.Idx) (a : EReal) (n : ℕ) (hn : n ≤ 16) :
    (AM2 c (XBof c XA) n y : EReal) ≤ a ↔ 0 ≤ a ∧ ∀ k < n, ∀ r < 16, ∀ j < 4, ab (xrow c XA k r j y) ≤ a := by
  induction n with
  | zero =>
    have e : (AM2 c (XBof c XA) 0 y : EReal) = 0 := by
      unfold AM2 k0_pay7
      rw [shapeCast_self]
      exact Ideal.ofBits_zero_bf16
    rw [e]
    exact ⟨fun h => ⟨h, fun r hr => absurd hr (Nat.not_lt_zero r)⟩, fun h => h.1⟩
  | succ n ih =>
    have hn' : n < k0_t2_loop.trips := by rw [trips2]; omega
    rw [show AM2 c (XBof c XA) (n + 1) = _ from AM2_succ c (XBof c XA) ⟨n, hn'⟩, AM3_le c XA _ _ _ _ _ trips3.le, ih (by omega)]
    dsimp only
    rw [trips3]
    constructor
    · rintro ⟨⟨h0, h1⟩, q⟩
      refine ⟨h0, fun k hk => ?_⟩
      by_cases e : k = n
      · subst e; exact q
      · exact h1 k (by omega)
    · rintro ⟨h0, h1⟩
      exact ⟨⟨h0, fun k hk => h1 k (by omega)⟩, h1 n (by omega)⟩

theorem table_le (a : EReal) : (∀ y, (AM2 c (XBof c XA) 16 y : EReal) ≤ a) ↔ ∀ z, ab (xat c XA z) ≤ a := by
  constructor
  · intro H z
    have z0 : (z 0).val < 1024 := (z 0).isLt
    have z1 : (z 1).val < 16384 := (z 1).isLt
    have h := ((AM2_le c XA (ix2 (⟨(z 0).val % 16, Nat.mod_lt _ (by decide)⟩ : Fin 16) (⟨(z 1).val % 1024, Nat.mod_lt _ (by decide)⟩ : Fin 1024)) a 16 le_rfl).1
      (H _)).2 ((z 1).val / 1024) (by omega) ((z 0).val / 64) (by omega) ((z 0).val / 16 % 4) (by omega)
    unfold xrow at h
    rw [dif_pos ⟨by omega, by omega, by omega⟩] at h
    refine le_of_eq_of_le (congrArg (fun w => ab (xat c XA w)) ?_) h
    funext i; apply Fin.ext
    match i with
    | 0 => show (z 0).val = 64 * ((z 0).val / 64) + 16 * ((z 0).val / 16 % 4) + (z 0).val % 16; omega
    | 1 => show (z 1).val = 1024 * ((z 1).val / 1024) + (z 1).val % 1024; omega
  · intro H y
    rw [AM2_le c XA y a 16 le_rfl]
    refine ⟨(ab_nonneg _).trans (H (ix2 (0 : Fin 1024) (0 : Fin 16384))), fun k hk r hr j hj => ?_⟩
    unfold xrow
    rw [dif_pos ⟨hk, hr, hj⟩]
    exact H _

/-- The scaled largest magnitude of `x`, from its least upper bound `M`. -/
theorem pay9_eq (M : EReal) (hM : ∀ a, M ≤ a ↔ ∀ z, ab (xat c XA z) ≤ a) :
    k0_pay9 (AM2 c (XBof c XA) 16) = Scalar.mulf (F := Ideal) (φ := .f32) M (Scalar.ofBits .f32 0x3B124925#32) := by
  unfold k0_pay9
  refine congrArg (fun w : Ideal .f32 => Scalar.mulf w (Scalar.ofBits .f32 0x3B124925#32)) ?_
  obtain ⟨j, hj⟩ := extract_cast (multiReduction .maximumf [1, 2] S1 (shapeCast S1x16x1024 (extf .f32 (AM2 c (XBof c XA) 16) bitsLt_bf16_f32) shapeCasts_S16x1024_S1x16x1024) 0xFF800000#32 reduces_S1x16x1024_S1 (.inl rfl) rfl) shapeCasts_S1_S1x1x1 ![0, 0, 0] inpos_S1x1x1_p0_0_0
  refine hj.trans ?_
  refine top_eq (extf .f32 (AM2 c (XBof c XA) 16) bitsLt_bf16_f32) shapeCasts_S16x1024_S1x16x1024 reduces_S1x16x1024_S1 _ _ one_idx _ M fun a => ?_
  exact (hM a).trans (table_le c XA a).symm

end

end Cert.Proof.RunKernelIdeal

end
-- ==== Proof.Sum.lean ====
/- The blocks' products add up to the whole product, and the blocks' codes to the whole array of codes. -/
module

public import proofs.«01_k».proof.Proof.MaxAll
public import Idealize.ShloMosaic.Lib.MatmulPlain

@[expose] public section

noncomputable section

namespace Cert.Proof.RunKernelIdeal

open Cert.KernelIdeal Cert.KernelIdeal.Gen
open Idealize.ShloMosaic
open Idealize.ShloMosaic.TcCoe
open Idealize.ShloMosaic.ValueIdx
open Cert.Proof.Scale

/-- One code: the value times the factor, clamped. -/
def code (q x : EReal) : EReal :=
  min (Ideal.ofBits .f32 0x43E00000#32) (max (Ideal.ofBits .f32 0xC3E00000#32) (x * q))

theorem lo_eq : (Ideal.ofBits .bf16 0xC3E0#16 : EReal) = Ideal.ofBits .f32 0xC3E00000#32 := by
  change Ideal.ieee 8 7 (w := 16) 0xC3E0#16 = Ideal.ieee 8 23 (w := 32) 0xC3E00000#32
  simp [Ideal.ieee, -EReal.coe_mul, -EReal.coe_neg]
  norm_num
theorem hi_eq : (Ideal.ofBits .bf16 0x43E0#16 : EReal) = Ideal.ofBits .f32 0x43E00000#32 := by
  change Ideal.ieee 8 7 (w := 16) 0x43E0#16 = Ideal.ieee 8 23 (w := 32) 0x43E00000#32
  simp [Ideal.ieee, -EReal.coe_mul, -EReal.coe_neg]
  norm_num

section
variable (c : Dev nD) (XA : Buf (Elt Ideal) (xM.view.loc (c : Thread nD τ))) (WA : Buf (Elt Ideal) (wM.view.loc (c : Thread nD τ)))

theorem XBk_at (b : Fin 16) (y : S1024x1024.Idx) :
    XBk c XA b (Fin.cons ⟨0, Nat.one_pos⟩ y) = xat c XA (ix2 (⟨(y 0).val, (y 0).isLt⟩ : Fin 1024)
      (⟨1024 * b.val + (y 1).val, by have h1 : (y 1).val < 1024 := (y 1).isLt; omega⟩ : Fin 16384)) := by
  refine congrArg (XA : S1024x16384.Idx → Elt Ideal .bf16) ?_
  funext a; apply Fin.ext
  match a with
  | 0 => show 0 + 1 * (y 0).val = (y 0).val; omega
  | 1 => show 1024 * (b.val + 1 * 0) + (0 + 1 * (y 1).val) = 1024 * b.val + (y 1).val; omega

/-- A block's codes, element by element. -/
theorem Qn_at (e : BitVec 32) (n : ℕ) (y : S1024x1024.Idx) :
    (Qn c XA e n y : EReal) = code (k0_pay19 (F := Ideal) e) (XBk c XA (Ring.bk 16 n) (Fin.cons ⟨0, Nat.one_pos⟩ y)) := by
  unfold Qn k0_pay20
  rw [shapeCast_self]
  unfold code
  rw [← lo_eq, ← hi_eq, ← shapeCast_dropUnit_apply ![1024, 1024] (XBk c XA (Ring.bk 16 n)) shapeCasts_S1x1024x1024_S1024x1024 y]
  rfl

/-- The codes of `x`, element by element. -/
theorem XC_at (e : BitVec 32) (z : S1024x16384.Idx) :
    ((XCof c XA e : S1024x16384.Idx → Elt Ideal .fp8e4m3) z : EReal) = code (k0_pay19 (F := Ideal) e) (xat c XA z) := by
  have z1 : (z 1).val < 16384 := (z 1).isLt
  unfold XCof
  rw [Qn_at, XBk_at]
  refine congrArg (fun w => code (k0_pay19 (F := Ideal) e) (xat c XA w)) ?_
  funext a; apply Fin.ext
  have hb : (Ring.bk 16 ((z 1).val / 1024) : Fin 16).val = (z 1).val / 1024 := bk_val (by omega)
  match a with
  | 0 => rfl
  | 1 =>
    show 1024 * (Ring.bk 16 ((z 1).val / 1024) : Fin 16).val + (z 1).val % 1024 = (z 1).val
    rw [hb]; omega

/-- The weights by index. -/
def wat (z : S16384x3072.Idx) : EReal := (WA : S16384x3072.Idx → Elt Ideal .fp8e4m3) z

theorem Wn_at (n : ℕ) (hn : n < 16) (k : Fin 1024) (j : Fin 3072) :
    Wn c WA n (ix2 k j) = wat c WA (ix2 (⟨1024 * n + k.val, by omega⟩ : Fin 16384) j) := by
  have hb : (Ring.bk 16 n : Fin 16).val = n := bk_val hn
  refine congrArg (WA : S16384x3072.Idx → Elt Ideal .fp8e4m3) (a₁ := ((wblk (Ring.bk 16 n)).view.emb (ix2 k j) : S16384x3072.Idx)) ?_
  funext (a : Fin 2); apply Fin.ext
  match a with
  | 0 => show 1024 * (Ring.bk 16 n : Fin 16).val + 1 * k.val = 1024 * n + k.val; rw [hb]; omega
  | 1 => show 0 + 1 * j.val = j.val; omega

/-- One term of the whole product. -/
def term (q : EReal) (r : Fin 1024) (j : Fin 3072) (k : ℕ) : EReal :=
  if h : k < 16384 then code q (xat c XA (ix2 r (⟨k, h⟩ : Fin 16384))) * wat c WA (ix2 (⟨k, h⟩ : Fin 16384) j) else 0

theorem ACC_at (e : BitVec 32) (r : Fin 1024) (j : Fin 3072) (n : ℕ) (hn : n ≤ 16) :
    (ACC c XA WA e n (ix2 r j) : EReal) = ∑ k ∈ Finset.range (1024 * n), term c XA WA (k0_pay19 (F := Ideal) e) r j k := by
  induction n with
  | zero =>
    unfold ACC k0_pay6
    rw [shapeCast_self]
    exact Ideal.ofBits_zero_f32
  | succ n ih =>
    have step : (ACC c XA WA e (n + 1) (ix2 r j) : EReal) = ACC c XA WA e n (ix2 r j)
        + ∑ k : Fin 1024, (Qn c XA e n (ix2 r k) : EReal) * Wn c WA n (ix2 k j) := by
      rw [show ACC c XA WA e (n + 1) = k0_pay4 (ACC c XA WA e n) (Qn c XA e n) (Wn c WA n) from rfl]
      unfold k0_pay4
      rw [shapeCast_self]
      refine congrArg (fun w : EReal => (ACC c XA WA e n (ix2 r j) : EReal) + w) ?_
      refine (Ideal.matmul_plain_apply (M := 1024) (K := 1024) (N := 3072) none (Qn c XA e n) (Wn c WA n) (constant S1024x3072 .f32 0x00000000#32) r j).trans ?_
      refine (congrArg (fun w : EReal => w + _) Ideal.ofBits_zero_f32).trans (zero_add _)
    rw [step, ih (by omega), show 1024 * (n + 1) = 1024 * n + 1024 by ring, Finset.sum_range_add,
      Finset.sum_range (fun x => term c XA WA (k0_pay19 (F := Ideal) e) r j (1024 * n + x))]
    refine congrArg _ (Finset.sum_congr rfl fun k _ => ?_)
    have hb : (Ring.bk 16 n : Fin 16).val = n := bk_val (by omega)
    rw [Qn_at, XBk_at, Wn_at c WA n (by omega)]
    unfold term
    rw [dif_pos (by omega)]
    refine congrArg (fun w => code (k0_pay19 (F := Ideal) e) (xat c XA w) * _) ?_
    funext a; apply Fin.ext
    match a with
    | 0 => rfl
    | 1 => show 1024 * (Ring.bk 16 n : Fin 16).val + k.val = 1024 * n + k.val; rw [hb]

theorem ACC_whole (e : BitVec 32) (r : Fin 1024) (j : Fin 3072) :
    (ACC c XA WA e 16 (ix2 r j) : EReal)
      = ∑ k : Fin 16384, code (k0_pay19 (F := Ideal) e) (xat c XA (ix2 r k)) * wat c WA (ix2 k j) := by
  rw [ACC_at c XA WA e r j 16 le_rfl, show 1024 * 16 = 16384 by norm_num, Finset.sum_range]
  refine Finset.sum_congr rfl fun k _ => ?_
  unfold term
  rw [dif_pos k.isLt]

end

end Cert.Proof.RunKernelIdeal

end
-- ==== Proof.KVal.lean ====
/- What the kernel computes is what the reference computes: scales, codes, product and its largest magnitude. -/
module

public import proofs.«01_k».proof.Proof.Sum
public import proofs.«01_k».proof.Proof.Gen.ReferenceIdeal.Skeleton

@[expose] public section

noncomputable section

namespace Cert.Proof

open Idealize.ShloMosaic
open Idealize.ShloMosaic.ValueIdx
open Cert.Proof.Scale Cert.Proof.RunKernelIdeal
open Cert.ReferenceIdeal Cert.ReferenceIdeal.Gen

/-! ## The reference, element by element -/

section
variable (X : Vec Ideal S1024x16384 .bf16) (W : Vec Ideal S16384x3072 .fp8e4m3) (s : Ideal .f32)

theorem code_at {S : Shape} (w : Ideal .f32) (x : FVec Ideal S .f32) (h : FTy.bits .fp8e4m3 < FTy.bits .f32) (z : S.Idx) :
    (truncf .fp8e4m3 (minimumf (broadcast S (Scalar.ofBits .f32 0x43E00000#32)) (maximumf (broadcast S (Scalar.ofBits .f32 0xC3E00000#32))
      (mulf x (broadcast S w)))) h z : EReal) = code w (x z) := rfl

theorem ref_up : Cert.ReferenceIdeal.Gen.k0_pay1 X = extf .f32 X bitsLt_bf16_f32 := by
  unfold Cert.ReferenceIdeal.Gen.k0_pay1
  rw [shapeCast_self]

theorem ref_abs (z : S1024x16384.Idx) : (absf (Cert.ReferenceIdeal.Gen.k0_pay1 X) z : EReal) = ab (X z) := by
  rw [ref_up]
  rfl

/-- The scaled largest magnitude of `x`, from the least upper bound of the magnitudes. -/
theorem ref_mag : ∃ M : EReal, (∀ a, M ≤ a ↔ ∀ z, ab (X z) ≤ a)
    ∧ Cert.ReferenceIdeal.Gen.k0_pay2 X = Scalar.mulf (F := Ideal) (φ := .f32) M (Scalar.ofBits .f32 0x3B124925#32) := by
  obtain ⟨j, hj⟩ := extract_cast (multiReduction .maximumf [1, 2] S1 (shapeCast S1x1024x16384 (absf (Cert.ReferenceIdeal.Gen.k0_pay1 X)) shapeCasts_S1024x16384_S1x1024x16384)
    0xFF800000#32 reduces_S1x1024x16384_S1 (.inl rfl) rfl) shapeCasts_S1_S1x1x1 ![0, 0, 0] inpos_S1x1x1_p0_0_0
  refine ⟨_, fun a => ?_, congrArg (fun w : Ideal .f32 => Scalar.mulf w (Scalar.ofBits .f32 0x3B124925#32)) hj⟩
  refine (red_le _ reduces_S1x1024x16384_S1 _ _ one_idx j a).trans ?_
  refine (cast_le (absf (Cert.ReferenceIdeal.Gen.k0_pay1 X) : S1024x16384.Idx → EReal) shapeCasts_S1024x16384_S1x1024x16384 a).trans ?_
  exact forall_congr' fun z => by rw [ref_abs]

theorem ref_scale : Cert.ReferenceIdeal.Gen.k0_pay4 X = rScale (Cert.ReferenceIdeal.Gen.k0_pay2 X) := rfl

theorem ref_code (z : S1024x16384.Idx) : (Cert.ReferenceIdeal.Gen.k0_pay5 X z : EReal) = code (rInv (Cert.ReferenceIdeal.Gen.k0_pay2 X)) (X z) := by
  unfold Cert.ReferenceIdeal.Gen.k0_pay5 Cert.ReferenceIdeal.Gen.k0_pay3
  rw [ref_up]
  generalize Cert.ReferenceIdeal.Gen.k0_pay2 X = v
  exact code_at (rInv v) (extf .f32 X bitsLt_bf16_f32) bitsLt_fp8e4m3_f32 z

theorem ref_code_y (v : Ideal .f32) (C : FVec Ideal S1024x16384 .fp8e4m3) (z : S1024x3072.Idx) :
    (Cert.ReferenceIdeal.Gen.k0_pay11 v C W s z : EReal)
      = code (rInv (Cert.ReferenceIdeal.Gen.k0_pay8 v C W s)) (Cert.ReferenceIdeal.Gen.k0_pay6 v C W s z) := by
  unfold Cert.ReferenceIdeal.Gen.k0_pay11 Cert.ReferenceIdeal.Gen.k0_pay9
  generalize Cert.ReferenceIdeal.Gen.k0_pay8 v C W s = u
  generalize Cert.ReferenceIdeal.Gen.k0_pay6 v C W s = y
  exact code_at (rInv u) y bitsLt_fp8e4m3_f32 z

theorem ref_scale_y (v : Ideal .f32) (C : FVec Ideal S1024x16384 .fp8e4m3) :
    Cert.ReferenceIdeal.Gen.k0_pay10 v C W s = rScale (Cert.ReferenceIdeal.Gen.k0_pay8 v C W s) := by
  unfold Cert.ReferenceIdeal.Gen.k0_pay10 Cert.ReferenceIdeal.Gen.k0_pay9
  generalize Cert.ReferenceIdeal.Gen.k0_pay8 v C W s = u
  rfl

theorem ref_prod (v : Ideal .f32) (C : FVec Ideal S1024x16384 .fp8e4m3) (r : Fin 1024) (j : Fin 3072) :
    (Cert.ReferenceIdeal.Gen.k0_pay6 v C W s (ix2 r j) : EReal)
      = (∑ k : Fin 16384, (C (ix2 r k) : EReal) * (W (ix2 k j) : EReal)) * ((v : EReal) * (s : EReal)) := by
  unfold Cert.ReferenceIdeal.Gen.k0_pay6
  refine congrArg (fun w : EReal => w * ((v : EReal) * (s : EReal))) ?_
  refine (Ideal.matmul_plain_apply (M := 1024) (K := 16384) (N := 3072) none C W (constant S1024x3072 .f32 0x00000000#32) r j).trans ?_
  exact (congrArg (fun w : EReal => w + _) Ideal.ofBits_zero_f32).trans (zero_add _)

end

/-! ## The kernel against it -/

section
variable (c : Dev Cert.KernelIdeal.nD) (X : Vec Ideal S1024x16384 .bf16) (W : Vec Ideal S16384x3072 .fp8e4m3) (s : Ideal .f32)

theorem mag_eq : Cert.KernelIdeal.Gen.k0_pay9 (AM2 c (XBof c X) 16) = Cert.ReferenceIdeal.Gen.k0_pay2 X := by
  obtain ⟨M, hM, e⟩ := ref_mag X
  rw [e]
  exact pay9_eq c X M hM

theorem R4_eq : R4 (F := Ideal) c X = ⟨expo (Cert.ReferenceIdeal.Gen.k0_pay2 X), Scalar.addi (expo (Cert.ReferenceIdeal.Gen.k0_pay2 X)) 127#32, 23#32⟩ := by
  unfold R4 S3
  dsimp only
  rw [S4_eq, mag_eq]

/-- The scale of `x`. -/
theorem outXs_eq : outXs (F := Ideal) c X = fun _ => Cert.ReferenceIdeal.Gen.k0_pay4 X := by
  unfold outXs
  rw [R4_eq, ref_scale, ← kScale_eq]
  rfl

theorem inv_eq : Cert.KernelIdeal.Gen.k0_pay19 (F := Ideal) (eX c X) = rInv (Cert.ReferenceIdeal.Gen.k0_pay2 X) := by
  unfold eX
  rw [R4_eq, ← kInv_eq]
  rfl

/-- The codes of `x`. -/
theorem outX_eq : outX (F := Ideal) c X = Cert.ReferenceIdeal.Gen.k0_pay5 X := by
  funext z
  exact (XC_at c X (eX c X) z).trans (by rw [inv_eq]; exact (ref_code X z).symm)

/-- The product. -/
theorem YV_eq : YV (F := Ideal) c X W s
    = Cert.ReferenceIdeal.Gen.k0_pay6 (Cert.ReferenceIdeal.Gen.k0_pay4 X) (Cert.ReferenceIdeal.Gen.k0_pay5 X) W s := by
  funext z
  obtain ⟨r, j, rfl⟩ : ∃ (r : Fin 1024) (j : Fin 3072), z = ix2 r j := ⟨z 0, z 1, eq_ix2 z⟩
  rw [ref_prod]
  have h1 : (YV (F := Ideal) c X W s (ix2 r j) : EReal)
      = (ACC c X W (eX c X) 16 (ix2 r j) : EReal) * ((outXs (F := Ideal) c X (ix2 (0 : Fin 1) (0 : Fin 1)) : EReal) * (s : EReal)) := rfl
  refine h1.trans ?_
  rw [outXs_eq, ACC_whole]
  have ht : ∀ k : Fin 16384, code (Cert.KernelIdeal.Gen.k0_pay19 (F := Ideal) (eX c X)) (xat c X (ix2 r k)) * wat c W (ix2 k j)
      = (Cert.ReferenceIdeal.Gen.k0_pay5 X (ix2 r k) : EReal) * (W (ix2 k j) : EReal) := fun k => by
    rw [inv_eq]
    exact congrArg (fun w : EReal => w * (W (ix2 k j) : EReal)) (ref_code X (ix2 r k)).symm
  simp only [ht]

theorem am_eq (v : Ideal .f32) (C : FVec Ideal S1024x16384 .fp8e4m3) :
    Cert.KernelIdeal.Gen.k0_pay25 (Cert.ReferenceIdeal.Gen.k0_pay6 v C W s) = Cert.ReferenceIdeal.Gen.k0_pay7 v C W s := rfl
theorem vy_eq (v : Ideal .f32) (C : FVec Ideal S1024x16384 .fp8e4m3) :
    Cert.KernelIdeal.Gen.k0_pay26 (Cert.ReferenceIdeal.Gen.k0_pay6 v C W s) = Cert.ReferenceIdeal.Gen.k0_pay8 v C W s := rfl

/-- Its largest magnitude. -/
theorem outAm_eq : outAm (F := Ideal) c X W s
    = fun _ => Cert.ReferenceIdeal.Gen.k0_pay7 (Cert.ReferenceIdeal.Gen.k0_pay4 X) (Cert.ReferenceIdeal.Gen.k0_pay5 X) W s := by
  unfold outAm
  rw [YV_eq, S6_eq]
  dsimp only
  rw [am_eq]

/-- Its scale. -/
theorem outSc_eq : outSc (F := Ideal) c X W s
    = fun _ => Cert.ReferenceIdeal.Gen.k0_pay10 (Cert.ReferenceIdeal.Gen.k0_pay4 X) (Cert.ReferenceIdeal.Gen.k0_pay5 X) W s := by
  unfold outSc
  rw [YV_eq, S6_eq]
  dsimp only
  rw [vy_eq, pay1_eq, kScale_eq, ref_scale_y]

theorem code_y (u : Ideal .f32) (y : FVec Ideal Cert.KernelIdeal.S1024x3072 .f32) (z : Cert.KernelIdeal.S1024x3072.Idx) :
    (Cert.KernelIdeal.Gen.k0_pay2 (F := Ideal) u (b6 u) (Scalar.addi (b6 u) 2#32) (wrd (Scalar.addi (b6 u) 2#32)) y z : EReal)
      = code (kInv u) (y z) := by
  have q : (wrd (Scalar.addi (Scalar.subi 0#32 (expo u)) 127#32) : Ideal .f32) = kInv u := rfl
  rw [← q]
  generalize hq : wrd (Scalar.addi (Scalar.subi 0#32 (expo u)) 127#32) = w
  unfold Cert.KernelIdeal.Gen.k0_pay2
  rw [shapeCast_self]
  subst hq
  rfl

/-- Its codes. -/
theorem outY_eq : outY (F := Ideal) c X W s
    = Cert.ReferenceIdeal.Gen.k0_pay11 (Cert.ReferenceIdeal.Gen.k0_pay4 X) (Cert.ReferenceIdeal.Gen.k0_pay5 X) W s := by
  unfold outY
  rw [YV_eq, S6_eq]
  dsimp only
  unfold Cert.KernelIdeal.Gen.k0_pay24
  rw [shapeCast_self, vy_eq]
  funext z
  exact (code_y (Cert.ReferenceIdeal.Gen.k0_pay8 (Cert.ReferenceIdeal.Gen.k0_pay4 X) (Cert.ReferenceIdeal.Gen.k0_pay5 X) W s) _ z).trans
    (by rw [kInv_eq]; exact (ref_code_y W s _ _ z).symm)

end

end Cert.Proof

end
-- ==== Proof.KArr.lean ====
/- The kernel's results as its run leaves them. -/
module

public import proofs.«01_k».proof.Proof.Quiet
public import Idealize.ShloMosaic.Lib.Pipeline.Value
public import Idealize.ShloMosaic.Lib.ValueIdx
public import Idealize.ShloMosaic.Lib.Tactic
public import Idealize.ShloMosaic.Lib.Claim

@[expose] public section

set_option maxRecDepth 16384

noncomputable section

namespace Cert.Proof.RunKernelIdeal

open Idealize.ShloMosaic Idealize.ShloMosaic.TcCoe Idealize.SL.Sem
open Idealize.ShloMosaic.ValueIdx
open Cert.KernelIdeal Cert.KernelIdeal.Gen

variable {F : FTy → Type} [FloatOps F]
variable (m : (ℓ : Loc nD τ sig) → Buf (Elt F) ℓ) (ρ : Dev nD → PrngReg)

theorem blk0 (c : Dev nD) : iblk m c 0 t0_0 = V m c main_v1 := by
  unfold iblk
  have hz' : (fun a => win0_0.index t0_0 a * main_v1.ty.shape.size a) = fun _ => 0 := funext fun a => by fin_cases a <;> decide
  exact Memref.read_access_unit_zero (Elt F) main_v1 hz' (fun a => by rw [congrFun hz' a]; simp) (V m c main_v1)

theorem ws0_at (c : Dev nD) : ws0 m c = (V m c main_v1 : S1x1.Idx → Elt F .f32) (ix2 (0 : Fin 1) (0 : Fin 1)) :=
  (congrFun (ws0_eq m c) (ix2 (0 : Fin 1) (0 : Fin 1))).symm.trans (congrFun (blk0 m c) (ix2 (0 : Fin 1) (0 : Fin 1)))

theorem flushed1 (c : Dev nD) (t : Fin cfg0.N) (hf : (cfg0.win 1).flush t = true) :
    (dats m 0 c).flushed 1 t = ((cfg0.win 1).blk t).view.read (Elt F) (outSc c (XA0 m c) (WA0 m c) (ws0 m c) : Buf (Elt F) ((c : Thread nD τ).loc main_v2_1)) := by
  obtain rfl : t = t0_0 := fin_N0 t
  show (cfg0.win 1).cut (grid0.coords t0_0) ((dats m 0 c).after 1 t0_0) = _
  rw [after0_1]
  have hz' : (fun a => win0_1.index t0_0 a * main_v2_1.ty.shape.size a) = fun _ => 0 := funext fun a => by fin_cases a <;> decide
  exact (Memref.read_access_unit_zero (Elt F) main_v2_1 hz' (fun a => by rw [congrFun hz' a]; simp) (outSc c (XA0 m c) (WA0 m c) (ws0 m c))).symm

theorem final1 (c : Dev nD) : (dats m 0 c).arrAt 1 cfg0.N = (outSc c (XA0 m c) (WA0 m c) (ws0 m c) : Buf (Elt F) ((c : Thread nD τ).loc main_v2_1)) :=
  (dats m 0 c).arrAt_eq_of_cover 1 (outSc c (XA0 m c) (WA0 m c) (ws0 m c)) (flushed1 m c) fun i =>
    ⟨t0_0, flush0_1 t0_0, by
      show i ∈ ((View.whole main_v2_1).slice (win0_1.rect t0_0)).set
      rw [View.set_slice_whole, Rect.mem_set_unit]
      intro a
      have h0 : (i 0 : Nat) < 1 := (i 0).isLt
      have h1 : (i 1 : Nat) < 1 := (i 1).isLt
      match a with
      | ⟨0, _⟩ => show win0_1.index t0_0 0 * win0_1.size 0 ≤ (i 0 : Nat) ∧ (i 0 : Nat) < win0_1.index t0_0 0 * win0_1.size 0 + win0_1.xsize (grid0.coords t0_0) 0
                  rw [show win0_1.index t0_0 0 * win0_1.size 0 = 0 from by decide +kernel, show win0_1.xsize (grid0.coords t0_0) 0 = 1 from by decide +kernel]; omega
      | ⟨1, _⟩ => show win0_1.index t0_0 1 * win0_1.size 1 ≤ (i 1 : Nat) ∧ (i 1 : Nat) < win0_1.index t0_0 1 * win0_1.size 1 + win0_1.xsize (grid0.coords t0_0) 1
                  rw [show win0_1.index t0_0 1 * win0_1.size 1 = 0 from by decide +kernel, show win0_1.xsize (grid0.coords t0_0) 1 = 1 from by decide +kernel]; omega⟩

theorem flushed2 (c : Dev nD) (t : Fin cfg0.N) (hf : (cfg0.win 2).flush t = true) :
    (dats m 0 c).flushed 2 t = ((cfg0.win 2).blk t).view.read (Elt F) (outAm c (XA0 m c) (WA0 m c) (ws0 m c) : Buf (Elt F) ((c : Thread nD τ).loc main_v2_2)) := by
  obtain rfl : t = t0_0 := fin_N0 t
  show (cfg0.win 2).cut (grid0.coords t0_0) ((dats m 0 c).after 2 t0_0) = _
  rw [after0_2]
  have hz' : (fun a => win0_2.index t0_0 a * main_v2_2.ty.shape.size a) = fun _ => 0 := funext fun a => by fin_cases a <;> decide
  exact (Memref.read_access_unit_zero (Elt F) main_v2_2 hz' (fun a => by rw [congrFun hz' a]; simp) (outAm c (XA0 m c) (WA0 m c) (ws0 m c))).symm

theorem final2 (c : Dev nD) : (dats m 0 c).arrAt 2 cfg0.N = (outAm c (XA0 m c) (WA0 m c) (ws0 m c) : Buf (Elt F) ((c : Thread nD τ).loc main_v2_2)) :=
  (dats m 0 c).arrAt_eq_of_cover 2 (outAm c (XA0 m c) (WA0 m c) (ws0 m c)) (flushed2 m c) fun i =>
    ⟨t0_0, flush0_2 t0_0, by
      show i ∈ ((View.whole main_v2_2).slice (win0_2.rect t0_0)).set
      rw [View.set_slice_whole, Rect.mem_set_unit]
      intro a
      have h0 : (i 0 : Nat) < 1 := (i 0).isLt
      have h1 : (i 1 : Nat) < 1 := (i 1).isLt
      match a with
      | ⟨0, _⟩ => show win0_2.index t0_0 0 * win0_2.size 0 ≤ (i 0 : Nat) ∧ (i 0 : Nat) < win0_2.index t0_0 0 * win0_2.size 0 + win0_2.xsize (grid0.coords t0_0) 0
                  rw [show win0_2.index t0_0 0 * win0_2.size 0 = 0 from by decide +kernel, show win0_2.xsize (grid0.coords t0_0) 0 = 1 from by decide +kernel]; omega
      | ⟨1, _⟩ => show win0_2.index t0_0 1 * win0_2.size 1 ≤ (i 1 : Nat) ∧ (i 1 : Nat) < win0_2.index t0_0 1 * win0_2.size 1 + win0_2.xsize (grid0.coords t0_0) 1
                  rw [show win0_2.index t0_0 1 * win0_2.size 1 = 0 from by decide +kernel, show win0_2.xsize (grid0.coords t0_0) 1 = 1 from by decide +kernel]; omega⟩

theorem flushed3 (c : Dev nD) (t : Fin cfg0.N) (hf : (cfg0.win 3).flush t = true) :
    (dats m 0 c).flushed 3 t = ((cfg0.win 3).blk t).view.read (Elt F) (outXs c (XA0 m c) : Buf (Elt F) ((c : Thread nD τ).loc main_v2_4)) := by
  obtain rfl : t = t0_0 := fin_N0 t
  show (cfg0.win 3).cut (grid0.coords t0_0) ((dats m 0 c).after 3 t0_0) = _
  rw [after0_3]
  have hz' : (fun a => win0_3.index t0_0 a * main_v2_4.ty.shape.size a) = fun _ => 0 := funext fun a => by fin_cases a <;> decide
  exact (Memref.read_access_unit_zero (Elt F) main_v2_4 hz' (fun a => by rw [congrFun hz' a]; simp) (outXs c (XA0 m c))).symm

theorem final3 (c : Dev nD) : (dats m 0 c).arrAt 3 cfg0.N = (outXs c (XA0 m c) : Buf (Elt F) ((c : Thread nD τ).loc main_v2_4)) :=
  (dats m 0 c).arrAt_eq_of_cover 3 (outXs c (XA0 m c)) (flushed3 m c) fun i =>
    ⟨t0_0, flush0_3 t0_0, by
      show i ∈ ((View.whole main_v2_4).slice (win0_3.rect t0_0)).set
      rw [View.set_slice_whole, Rect.mem_set_unit]
      intro a
      have h0 : (i 0 : Nat) < 1 := (i 0).isLt
      have h1 : (i 1 : Nat) < 1 := (i 1).isLt
      match a with
      | ⟨0, _⟩ => show win0_3.index t0_0 0 * win0_3.size 0 ≤ (i 0 : Nat) ∧ (i 0 : Nat) < win0_3.index t0_0 0 * win0_3.size 0 + win0_3.xsize (grid0.coords t0_0) 0
                  rw [show win0_3.index t0_0 0 * win0_3.size 0 = 0 from by decide +kernel, show win0_3.xsize (grid0.coords t0_0) 0 = 1 from by decide +kernel]; omega
      | ⟨1, _⟩ => show win0_3.index t0_0 1 * win0_3.size 1 ≤ (i 1 : Nat) ∧ (i 1 : Nat) < win0_3.index t0_0 1 * win0_3.size 1 + win0_3.xsize (grid0.coords t0_0) 1
                  rw [show win0_3.index t0_0 1 * win0_3.size 1 = 0 from by decide +kernel, show win0_3.xsize (grid0.coords t0_0) 1 = 1 from by decide +kernel]; omega⟩

theorem head_v0 (c : Dev nD) : V m c main_v0
    = (shapeCast main_v0.ty.shape (m ((c : Thread nD τ).loc main_arg0)) shapeCasts_S1x1024x16384_S1024x16384 : Buf (Elt F) ((c : Thread nD τ).loc main_v0)) := by
  simp only [V, V0, hostOps0, List.flatten_cons, List.flatten_nil, List.append_nil, StableHlo.after_cons, StableHlo.after_nil]
  rw [StableHlo.reshape_result_ne _ _ _ _ _ _ _ (by decide)]
  exact StableHlo.reshape_result _ _ _ _ _ _ _

theorem head_v1 (c : Dev nD) : V m c main_v1
    = (shapeCast main_v1.ty.shape (m ((c : Thread nD τ).loc main_arg2)) shapeCasts_S_S1x1 : Buf (Elt F) ((c : Thread nD τ).loc main_v1)) := by
  simp only [V, V0, hostOps0, List.flatten_cons, List.flatten_nil, List.append_nil, StableHlo.after_cons, StableHlo.after_nil]
  refine (StableHlo.reshape_result _ _ _ _ _ _ _).trans ?_
  rw [StableHlo.reshape_result_ne _ _ _ _ _ _ _ (by decide)]

theorem tail_v3 (c : Dev nD) (U : Valuation τ sig (Elt F)) : StableHlo.after (List.flatten [hostOps1]) U (Proc.devRef .tc main_v3)
    = (shapeCast main_v3.ty.shape (U (Proc.devRef .tc main_v2_0) : Buf (Elt F) ((c : Thread nD τ).loc main_v2_0)) shapeCasts_S1024x3072_S1x1024x3072 : Buf (Elt F) ((c : Thread nD τ).loc main_v3)) := by
  simp only [hostOps1, List.flatten_cons, List.flatten_nil, List.append_nil, StableHlo.after_cons, StableHlo.after_nil]
  rw [StableHlo.reshape_result_ne _ _ _ _ _ _ _ (by decide)]
  rw [StableHlo.reshape_result_ne _ _ _ _ _ _ _ (by decide)]
  rw [StableHlo.reshape_result_ne _ _ _ _ _ _ _ (by decide)]
  rw [StableHlo.reshape_result_ne _ _ _ _ _ _ _ (by decide)]
  refine (StableHlo.reshape_result _ _ _ _ _ _ _).trans ?_
  rfl

theorem tail_v4 (c : Dev nD) (U : Valuation τ sig (Elt F)) : StableHlo.after (List.flatten [hostOps1]) U (Proc.devRef .tc main_v4)
    = (shapeCast main_v4.ty.shape (U (Proc.devRef .tc main_v2_1) : Buf (Elt F) ((c : Thread nD τ).loc main_v2_1)) shapeCasts_S1x1_S_ : Buf (Elt F) ((c : Thread nD τ).loc main_v4)) := by
  simp only [hostOps1, List.flatten_cons, List.flatten_nil, List.append_nil, StableHlo.after_cons, StableHlo.after_nil]
  rw [StableHlo.reshape_result_ne _ _ _ _ _ _ _ (by decide)]
  rw [StableHlo.reshape_result_ne _ _ _ _ _ _ _ (by decide)]
  rw [StableHlo.reshape_result_ne _ _ _ _ _ _ _ (by decide)]
  refine (StableHlo.reshape_result _ _ _ _ _ _ _).trans ?_
  rw [StableHlo.reshape_result_ne _ _ _ _ _ _ _ (by decide)]

theorem tail_v5 (c : Dev nD) (U : Valuation τ sig (Elt F)) : StableHlo.after (List.flatten [hostOps1]) U (Proc.devRef .tc main_v5)
    = (shapeCast main_v5.ty.shape (U (Proc.devRef .tc main_v2_2) : Buf (Elt F) ((c : Thread nD τ).loc main_v2_2)) shapeCasts_S1x1_S_ : Buf (Elt F) ((c : Thread nD τ).loc main_v5)) := by
  simp only [hostOps1, List.flatten_cons, List.flatten_nil, List.append_nil, StableHlo.after_cons, StableHlo.after_nil]
  rw [StableHlo.reshape_result_ne _ _ _ _ _ _ _ (by decide)]
  rw [StableHlo.reshape_result_ne _ _ _ _ _ _ _ (by decide)]
  refine (StableHlo.reshape_result _ _ _ _ _ _ _).trans ?_
  rw [StableHlo.reshape_result_ne _ _ _ _ _ _ _ (by decide)]
  rw [StableHlo.reshape_result_ne _ _ _ _ _ _ _ (by decide)]

theorem tail_v6 (c : Dev nD) (U : Valuation τ sig (Elt F)) : StableHlo.after (List.flatten [hostOps1]) U (Proc.devRef .tc main_v6)
    = (shapeCast main_v6.ty.shape (U (Proc.devRef .tc main_v2_3) : Buf (Elt F) ((c : Thread nD τ).loc main_v2_3)) shapeCasts_S1024x16384_S1x1024x16384 : Buf (Elt F) ((c : Thread nD τ).loc main_v6)) := by
  simp only [hostOps1, List.flatten_cons, List.flatten_nil, List.append_nil, StableHlo.after_cons, StableHlo.after_nil]
  rw [StableHlo.reshape_result_ne _ _ _ _ _ _ _ (by decide)]
  refine (StableHlo.reshape_result _ _ _ _ _ _ _).trans ?_
  rw [StableHlo.reshape_result_ne _ _ _ _ _ _ _ (by decide)]
  rw [StableHlo.reshape_result_ne _ _ _ _ _ _ _ (by decide)]
  rw [StableHlo.reshape_result_ne _ _ _ _ _ _ _ (by decide)]

theorem tail_v7 (c : Dev nD) (U : Valuation τ sig (Elt F)) : StableHlo.after (List.flatten [hostOps1]) U (Proc.devRef .tc main_v7)
    = (shapeCast main_v7.ty.shape (U (Proc.devRef .tc main_v2_4) : Buf (Elt F) ((c : Thread nD τ).loc main_v2_4)) shapeCasts_S1x1_S_ : Buf (Elt F) ((c : Thread nD τ).loc main_v7)) := by
  simp only [hostOps1, List.flatten_cons, List.flatten_nil, List.append_nil, StableHlo.after_cons, StableHlo.after_nil]
  refine (StableHlo.reshape_result _ _ _ _ _ _ _).trans ?_
  rw [StableHlo.reshape_result_ne _ _ _ _ _ _ _ (by decide)]
  rw [StableHlo.reshape_result_ne _ _ _ _ _ _ _ (by decide)]
  rw [StableHlo.reshape_result_ne _ _ _ _ _ _ _ (by decide)]
  rw [StableHlo.reshape_result_ne _ _ _ _ _ _ _ (by decide)]

theorem inj : Function.Injective (Pipeline.arrRef spec0) := by decide

theorem end_v3 (c : Dev nD) : endOf m c (Proc.devRef .tc main_v3)
    = (shapeCast main_v3.ty.shape (outY c (XA0 m c) (WA0 m c) (ws0 m c)) shapeCasts_S1024x3072_S1x1024x3072 : Buf (Elt F) ((c : Thread nD τ).loc main_v3)) := by
  unfold endOf
  rw [tail_v3 c]
  exact congrArg (fun b => (shapeCast main_v3.ty.shape b shapeCasts_S1024x3072_S1x1024x3072 : Buf (Elt F) ((c : Thread nD τ).loc main_v3)))
    ((Pipeline.withArrays_of_ne spec0 c _ _ main_v2_0 (by exact (by decide : ∀ w, Pipeline.arrRef spec0 w ≠ main_v2_0))).trans
      ((Pipeline.withR_of_mem (V0 m c) RS c (G m c) main_v2_0 (by decide)).trans (G_y m c)))

theorem end_v4 (c : Dev nD) : endOf m c (Proc.devRef .tc main_v4)
    = (shapeCast main_v4.ty.shape (outSc c (XA0 m c) (WA0 m c) (ws0 m c)) shapeCasts_S1x1_S_ : Buf (Elt F) ((c : Thread nD τ).loc main_v4)) := by
  unfold endOf
  rw [tail_v4 c]
  exact congrArg (fun b => (shapeCast main_v4.ty.shape b shapeCasts_S1x1_S_ : Buf (Elt F) ((c : Thread nD τ).loc main_v4)))
    ((Pipeline.withArrays_arr spec0 inj c _ (fun w => (dats m 0 c).arrAt w cfg0.N) 1).trans (final1 m c))

theorem end_v5 (c : Dev nD) : endOf m c (Proc.devRef .tc main_v5)
    = (shapeCast main_v5.ty.shape (outAm c (XA0 m c) (WA0 m c) (ws0 m c)) shapeCasts_S1x1_S_ : Buf (Elt F) ((c : Thread nD τ).loc main_v5)) := by
  unfold endOf
  rw [tail_v5 c]
  exact congrArg (fun b => (shapeCast main_v5.ty.shape b shapeCasts_S1x1_S_ : Buf (Elt F) ((c : Thread nD τ).loc main_v5)))
    ((Pipeline.withArrays_arr spec0 inj c _ (fun w => (dats m 0 c).arrAt w cfg0.N) 2).trans (final2 m c))

theorem end_v6 (c : Dev nD) : endOf m c (Proc.devRef .tc main_v6)
    = (shapeCast main_v6.ty.shape (outX c (XA0 m c)) shapeCasts_S1024x16384_S1x1024x16384 : Buf (Elt F) ((c : Thread nD τ).loc main_v6)) := by
  unfold endOf
  rw [tail_v6 c]
  exact congrArg (fun b => (shapeCast main_v6.ty.shape b shapeCasts_S1024x16384_S1x1024x16384 : Buf (Elt F) ((c : Thread nD τ).loc main_v6)))
    ((Pipeline.withArrays_of_ne spec0 c _ _ main_v2_3 (by exact (by decide : ∀ w, Pipeline.arrRef spec0 w ≠ main_v2_3))).trans
      ((Pipeline.withR_of_mem (V0 m c) RS c (G m c) main_v2_3 (by decide)).trans (G_x m c)))

theorem end_v7 (c : Dev nD) : endOf m c (Proc.devRef .tc main_v7)
    = (shapeCast main_v7.ty.shape (outXs c (XA0 m c)) shapeCasts_S1x1_S_ : Buf (Elt F) ((c : Thread nD τ).loc main_v7)) := by
  unfold endOf
  rw [tail_v7 c]
  exact congrArg (fun b => (shapeCast main_v7.ty.shape b shapeCasts_S1x1_S_ : Buf (Elt F) ((c : Thread nD τ).loc main_v7)))
    ((Pipeline.withArrays_arr spec0 inj c _ (fun w => (dats m 0 c).arrAt w cfg0.N) 3).trans (final3 m c))

/-- The run, read: the five results and the arguments. -/
theorem run : θ_run defs (onTc (τ := τ) (main (F := F))) ⟨m, fun _ => 0, ρ⟩ (fun r => ∀ c : Dev nD, (r.2.mem ((c : Thread nD τ).loc main_v3) = (shapeCast main_v3.ty.shape (outY c (XA0 m c) (WA0 m c) (ws0 m c)) shapeCasts_S1024x3072_S1x1024x3072 : Buf (Elt F) ((c : Thread nD τ).loc main_v3))
      ∧ r.2.mem ((c : Thread nD τ).loc main_v4) = (shapeCast main_v4.ty.shape (outSc c (XA0 m c) (WA0 m c) (ws0 m c)) shapeCasts_S1x1_S_ : Buf (Elt F) ((c : Thread nD τ).loc main_v4))
      ∧ r.2.mem ((c : Thread nD τ).loc main_v5) = (shapeCast main_v5.ty.shape (outAm c (XA0 m c) (WA0 m c) (ws0 m c)) shapeCasts_S1x1_S_ : Buf (Elt F) ((c : Thread nD τ).loc main_v5))
      ∧ r.2.mem ((c : Thread nD τ).loc main_v6) = (shapeCast main_v6.ty.shape (outX c (XA0 m c)) shapeCasts_S1024x16384_S1x1024x16384 : Buf (Elt F) ((c : Thread nD τ).loc main_v6))
      ∧ r.2.mem ((c : Thread nD τ).loc main_v7) = (shapeCast main_v7.ty.shape (outXs c (XA0 m c)) shapeCasts_S1x1_S_ : Buf (Elt F) ((c : Thread nD τ).loc main_v7)))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))) :=
  (θ_run defs _ _).mono (fun _ h c => ⟨⟨(h.1.1 c main_v3 (Pipeline.mem_restRefs_of main_v3 (by decide) (by decide))).trans (end_v3 m c), (h.1.1 c main_v4 (Pipeline.mem_restRefs_of main_v4 (by decide) (by decide))).trans (end_v4 m c), (h.1.1 c main_v5 (Pipeline.mem_restRefs_of main_v5 (by decide) (by decide))).trans (end_v5 m c), (h.1.1 c main_v6 (Pipeline.mem_restRefs_of main_v6 (by decide) (by decide))).trans (end_v6 m c), (h.1.1 c main_v7 (Pipeline.mem_restRefs_of main_v7 (by decide) (by decide))).trans (end_v7 m c)⟩, h.2.1 c⟩) (θ_run_and (run_main m ρ) (quiet m ρ))

end Cert.Proof.RunKernelIdeal

end
-- ==== Proof.RVal.lean ====
/- What the reference's region leaves in its results. -/
module

public import proofs.«01_k».proof.Proof.Gen.ReferenceIdeal.Frame
public import Idealize.ShloMosaic.Lib.Pipeline.Value
public import Idealize.ShloMosaic.Lib.ValueIdx
public import Idealize.ShloMosaic.Lib.Tactic

@[expose] public section

set_option maxRecDepth 16384

noncomputable section

namespace Cert.Proof.Reference

open Idealize.ShloMosaic Idealize.ShloMosaic.TcCoe Idealize.SL.Sem
open Idealize.ShloMosaic.ValueIdx
open Cert.ReferenceIdeal Cert.ReferenceIdeal.Gen

variable {F : FTy → Type} [FloatOps F]

theorem hz : (![0, 0] : Fin 2 → Nat) = fun _ => 0 := funext fun a => by fin_cases a <;> rfl

theorem ld_one (x : Vec F S1x1 .f32) (hb : ∀ a, (![0, 0] : Fin 2 → Nat) a + S1x1.size a ≤ S1x1.size a) (i : (⟨2, ![1, 1]⟩ : Shape).Idx) :
    View.ld x (Rect.unit ![0, 0] ![1, 1] hb) i = x (ix2 (0 : Fin 1) (0 : Fin 1)) := by
  refine congrArg x (a₁ := (_ : S1x1.Idx)) ?_
  funext (a : Fin 2); apply Fin.ext
  have h : (((Rect.unit (s := S1x1) ![0, 0] ![1, 1] hb).idx i) a).val < 1 := lt_of_lt_of_le (((Rect.unit (s := S1x1) ![0, 0] ![1, 1] hb).idx i) a).isLt (by fin_cases a <;> decide)
  match a with
  | 0 => exact Nat.lt_one_iff.1 h
  | 1 => exact Nat.lt_one_iff.1 h

theorem out3 (c : Dev nD) (a0 : Memref sig .tc .vmem S1024x16384 .bf16) (h0 : a0.IsWhole) (a1 : Memref sig .tc .vmem S16384x3072 .fp8e4m3) (h1 : a1.IsWhole)
    (a2 : Memref sig .tc .smem S1x1 .f32) (h2 : a2.IsWhole) (a3 : Memref sig .tc .vmem S1024x3072 .fp8e4m3) (h3 : a3.IsWhole)
    (a4 : Memref sig .tc .smem S1x1 .f32) (h4 : a4.IsWhole) (a5 : Memref sig .tc .smem S1x1 .f32) (h5 : a5.IsWhole)
    (a6 : Memref sig .tc .vmem S1024x16384 .fp8e4m3) (h6 : a6.IsWhole) (a7 : Memref sig .tc .smem S1x1 .f32) (h7 : a7.IsWhole)
    (x0 : Vec F S1024x16384 .bf16) (x1 : Vec F S16384x3072 .fp8e4m3) (x2 : Vec F S1x1 .f32) :
    out0_A_3 c a0 h0 a1 h1 a2 h2 a3 h3 a4 h4 a5 h5 a6 h6 a7 h7 x0 x1 x2 = k0_pay11 (k0_pay4 x0) (k0_pay5 x0) x1 (x2 (ix2 (0 : Fin 1) (0 : Fin 1))) := by
  unfold out0_A_3
  rw [View.read_writes_eq_canon _ _ _ (cover0_A_3 c a0 h0 a1 h1 a2 h2 a3 h3 a4 h4 a5 h5 a6 h6 a7 h7 x0 x1 x2)]
  unfold kernelRun0_A
  dsimp only
  sl_unfold_words
  rw [View.canon_unit_zero hz]
  simp only [View.readAt_eq_ld, h0.read_unread, h1.read_unread, h2.read_unread, View.ld_unit_zero (S := S1024x16384) hz,
    View.ld_unit_zero (S := S16384x3072) hz, shapeCast_self]
  rw [ld_one]

theorem out4 (c : Dev nD) (a0 : Memref sig .tc .vmem S1024x16384 .bf16) (h0 : a0.IsWhole) (a1 : Memref sig .tc .vmem S16384x3072 .fp8e4m3) (h1 : a1.IsWhole)
    (a2 : Memref sig .tc .smem S1x1 .f32) (h2 : a2.IsWhole) (a3 : Memref sig .tc .vmem S1024x3072 .fp8e4m3) (h3 : a3.IsWhole)
    (a4 : Memref sig .tc .smem S1x1 .f32) (h4 : a4.IsWhole) (a5 : Memref sig .tc .smem S1x1 .f32) (h5 : a5.IsWhole)
    (a6 : Memref sig .tc .vmem S1024x16384 .fp8e4m3) (h6 : a6.IsWhole) (a7 : Memref sig .tc .smem S1x1 .f32) (h7 : a7.IsWhole)
    (x0 : Vec F S1024x16384 .bf16) (x1 : Vec F S16384x3072 .fp8e4m3) (x2 : Vec F S1x1 .f32) :
    out0_A_4 c a0 h0 a1 h1 a2 h2 a3 h3 a4 h4 a5 h5 a6 h6 a7 h7 x0 x1 x2 = fun _ => k0_pay10 (k0_pay4 x0) (k0_pay5 x0) x1 (x2 (ix2 (0 : Fin 1) (0 : Fin 1))) := by
  unfold out0_A_4
  rw [View.read_writes_eq_canon _ _ _ (cover0_A_4 c a0 h0 a1 h1 a2 h2 a3 h3 a4 h4 a5 h5 a6 h6 a7 h7 x0 x1 x2)]
  unfold kernelRun0_A
  dsimp only
  sl_unfold_words
  rw [View.canon_unit_zero hz]
  simp only [View.readAt_eq_ld, h0.read_unread, h1.read_unread, h2.read_unread, View.ld_unit_zero (S := S1024x16384) hz,
    View.ld_unit_zero (S := S16384x3072) hz, shapeCast_self]
  rw [ld_one]
  rfl

theorem out5 (c : Dev nD) (a0 : Memref sig .tc .vmem S1024x16384 .bf16) (h0 : a0.IsWhole) (a1 : Memref sig .tc .vmem S16384x3072 .fp8e4m3) (h1 : a1.IsWhole)
    (a2 : Memref sig .tc .smem S1x1 .f32) (h2 : a2.IsWhole) (a3 : Memref sig .tc .vmem S1024x3072 .fp8e4m3) (h3 : a3.IsWhole)
    (a4 : Memref sig .tc .smem S1x1 .f32) (h4 : a4.IsWhole) (a5 : Memref sig .tc .smem S1x1 .f32) (h5 : a5.IsWhole)
    (a6 : Memref sig .tc .vmem S1024x16384 .fp8e4m3) (h6 : a6.IsWhole) (a7 : Memref sig .tc .smem S1x1 .f32) (h7 : a7.IsWhole)
    (x0 : Vec F S1024x16384 .bf16) (x1 : Vec F S16384x3072 .fp8e4m3) (x2 : Vec F S1x1 .f32) :
    out0_A_5 c a0 h0 a1 h1 a2 h2 a3 h3 a4 h4 a5 h5 a6 h6 a7 h7 x0 x1 x2 = fun _ => k0_pay7 (k0_pay4 x0) (k0_pay5 x0) x1 (x2 (ix2 (0 : Fin 1) (0 : Fin 1))) := by
  unfold out0_A_5
  rw [View.read_writes_eq_canon _ _ _ (cover0_A_5 c a0 h0 a1 h1 a2 h2 a3 h3 a4 h4 a5 h5 a6 h6 a7 h7 x0 x1 x2)]
  unfold kernelRun0_A
  dsimp only
  sl_unfold_words
  rw [View.canon_unit_zero hz]
  simp only [View.readAt_eq_ld, h0.read_unread, h1.read_unread, h2.read_unread, View.ld_unit_zero (S := S1024x16384) hz,
    View.ld_unit_zero (S := S16384x3072) hz, shapeCast_self]
  rw [ld_one]
  rfl

theorem out6 (c : Dev nD) (a0 : Memref sig .tc .vmem S1024x16384 .bf16) (h0 : a0.IsWhole) (a1 : Memref sig .tc .vmem S16384x3072 .fp8e4m3) (h1 : a1.IsWhole)
    (a2 : Memref sig .tc .smem S1x1 .f32) (h2 : a2.IsWhole) (a3 : Memref sig .tc .vmem S1024x3072 .fp8e4m3) (h3 : a3.IsWhole)
    (a4 : Memref sig .tc .smem S1x1 .f32) (h4 : a4.IsWhole) (a5 : Memref sig .tc .smem S1x1 .f32) (h5 : a5.IsWhole)
    (a6 : Memref sig .tc .vmem S1024x16384 .fp8e4m3) (h6 : a6.IsWhole) (a7 : Memref sig .tc .smem S1x1 .f32) (h7 : a7.IsWhole)
    (x0 : Vec F S1024x16384 .bf16) (x1 : Vec F S16384x3072 .fp8e4m3) (x2 : Vec F S1x1 .f32) :
    out0_A_6 c a0 h0 a1 h1 a2 h2 a3 h3 a4 h4 a5 h5 a6 h6 a7 h7 x0 x1 x2 = k0_pay5 x0 := by
  unfold out0_A_6
  rw [View.read_writes_eq_canon _ _ _ (cover0_A_6 c a0 h0 a1 h1 a2 h2 a3 h3 a4 h4 a5 h5 a6 h6 a7 h7 x0 x1 x2)]
  unfold kernelRun0_A
  dsimp only
  sl_unfold_words
  rw [View.canon_unit_zero hz]
  simp only [View.readAt_eq_ld, h0.read_unread, h1.read_unread, h2.read_unread, View.ld_unit_zero (S := S1024x16384) hz,
    View.ld_unit_zero (S := S16384x3072) hz, shapeCast_self]

theorem out7 (c : Dev nD) (a0 : Memref sig .tc .vmem S1024x16384 .bf16) (h0 : a0.IsWhole) (a1 : Memref sig .tc .vmem S16384x3072 .fp8e4m3) (h1 : a1.IsWhole)
    (a2 : Memref sig .tc .smem S1x1 .f32) (h2 : a2.IsWhole) (a3 : Memref sig .tc .vmem S1024x3072 .fp8e4m3) (h3 : a3.IsWhole)
    (a4 : Memref sig .tc .smem S1x1 .f32) (h4 : a4.IsWhole) (a5 : Memref sig .tc .smem S1x1 .f32) (h5 : a5.IsWhole)
    (a6 : Memref sig .tc .vmem S1024x16384 .fp8e4m3) (h6 : a6.IsWhole) (a7 : Memref sig .tc .smem S1x1 .f32) (h7 : a7.IsWhole)
    (x0 : Vec F S1024x16384 .bf16) (x1 : Vec F S16384x3072 .fp8e4m3) (x2 : Vec F S1x1 .f32) :
    out0_A_7 c a0 h0 a1 h1 a2 h2 a3 h3 a4 h4 a5 h5 a6 h6 a7 h7 x0 x1 x2 = fun _ => k0_pay4 x0 := by
  unfold out0_A_7
  rw [View.read_writes_eq_canon _ _ _ (cover0_A_7 c a0 h0 a1 h1 a2 h2 a3 h3 a4 h4 a5 h5 a6 h6 a7 h7 x0 x1 x2)]
  unfold kernelRun0_A
  dsimp only
  sl_unfold_words
  rw [View.canon_unit_zero hz]
  simp only [View.readAt_eq_ld, h0.read_unread, h1.read_unread, h2.read_unread, View.ld_unit_zero (S := S1024x16384) hz,
    View.ld_unit_zero (S := S16384x3072) hz, shapeCast_self]
  rfl

end Cert.Proof.Reference

end
-- ==== Proof.RArr.lean ====
/- The reference's results as its run leaves them. -/
module

public import proofs.«01_k».proof.Proof.RVal

@[expose] public section

set_option maxRecDepth 16384

noncomputable section

namespace Cert.Proof.Reference

open Idealize.ShloMosaic Idealize.ShloMosaic.TcCoe Idealize.SL.Sem
open Idealize.ShloMosaic.ValueIdx
open Cert.ReferenceIdeal Cert.ReferenceIdeal.Gen

variable {F : FTy → Type} [FloatOps F]
variable (m : (ℓ : Loc nD τ sig) → Buf (Elt F) ℓ) (ρ : Dev nD → PrngReg)

theorem blk0 (c : Dev nD) : iblk m c 0 t0_0 = V m c main_v0 := by
  unfold iblk
  have hz' : (fun a => win0_0.index t0_0 a * main_v0.ty.shape.size a) = fun _ => 0 := funext fun a => by fin_cases a <;> decide
  exact Memref.read_access_unit_zero (Elt F) main_v0 hz' (fun a => by rw [congrFun hz' a]; simp) (V m c main_v0)

theorem blk1 (c : Dev nD) : iblk m c 1 t0_0 = V m c main_arg1 := by
  unfold iblk
  have hz' : (fun a => win0_1.index t0_0 a * main_arg1.ty.shape.size a) = fun _ => 0 := funext fun a => by fin_cases a <;> decide
  exact Memref.read_access_unit_zero (Elt F) main_arg1 hz' (fun a => by rw [congrFun hz' a]; simp) (V m c main_arg1)

theorem blk2 (c : Dev nD) : iblk m c 2 t0_0 = V m c main_v1 := by
  unfold iblk
  have hz' : (fun a => win0_2.index t0_0 a * main_v1.ty.shape.size a) = fun _ => 0 := funext fun a => by fin_cases a <;> decide
  exact Memref.read_access_unit_zero (Elt F) main_v1 hz' (fun a => by rw [congrFun hz' a]; simp) (V m c main_v1)

def rY (c : Dev nD) : Vec F S1024x3072 .fp8e4m3 := k0_pay11 (k0_pay4 (V m c main_v0)) (k0_pay5 (V m c main_v0)) (V m c main_arg1) (V m c main_v1 (ix2 (0 : Fin 1) (0 : Fin 1)))
def rSc (c : Dev nD) : Vec F S1x1 .f32 := fun _ => k0_pay10 (k0_pay4 (V m c main_v0)) (k0_pay5 (V m c main_v0)) (V m c main_arg1) (V m c main_v1 (ix2 (0 : Fin 1) (0 : Fin 1)))
def rAm (c : Dev nD) : Vec F S1x1 .f32 := fun _ => k0_pay7 (k0_pay4 (V m c main_v0)) (k0_pay5 (V m c main_v0)) (V m c main_arg1) (V m c main_v1 (ix2 (0 : Fin 1) (0 : Fin 1)))
def rX (c : Dev nD) : Vec F S1024x16384 .fp8e4m3 := k0_pay5 (V m c main_v0)
def rXs (c : Dev nD) : Vec F S1x1 .f32 := fun _ => k0_pay4 (V m c main_v0)

theorem outs3 (c : Dev nD) : (outsAt0 m c t0_0).1 = rY m c := by
  unfold outsAt0
  dsimp only
  rw [out3, blk0, blk1, blk2]
  rfl

theorem flushed3 (c : Dev nD) (t : Fin cfg0.N) (hf : (cfg0.win 3).flush t = true) :
    (dats m 0 c).flushed 3 t = ((cfg0.win 3).blk t).view.read (Elt F) (rY m c : Buf (Elt F) ((c : Thread nD τ).loc main_v2_0)) := by
  obtain rfl : t = t0_0 := fin_N0 t
  show (cfg0.win 3).cut (grid0.coords t0_0) ((dats m 0 c).after 3 t0_0) = _
  rw [after0_3, outs3]
  have hz' : (fun a => win0_3.index t0_0 a * main_v2_0.ty.shape.size a) = fun _ => 0 := funext fun a => by fin_cases a <;> decide
  exact (Memref.read_access_unit_zero (Elt F) main_v2_0 hz' (fun a => by rw [congrFun hz' a]; simp) (rY m c)).symm

theorem final3 (c : Dev nD) : (dats m 0 c).arrAt 3 cfg0.N = (rY m c : Buf (Elt F) ((c : Thread nD τ).loc main_v2_0)) :=
  (dats m 0 c).arrAt_eq_of_cover 3 (rY m c) (flushed3 m c) fun i =>
    ⟨t0_0, flush0_3 t0_0, by
      show i ∈ ((View.whole main_v2_0).slice (win0_3.rect t0_0)).set
      rw [View.set_slice_whole, Rect.mem_set_unit]
      intro a
      have h0 : (i 0 : Nat) < 1024 := (i 0).isLt
      have h1 : (i 1 : Nat) < 3072 := (i 1).isLt
      match a with
      | ⟨0, _⟩ => show win0_3.index t0_0 0 * win0_3.size 0 ≤ (i 0 : Nat) ∧ (i 0 : Nat) < win0_3.index t0_0 0 * win0_3.size 0 + win0_3.xsize (grid0.coords t0_0) 0
                  rw [show win0_3.index t0_0 0 * win0_3.size 0 = 0 from by decide +kernel, show win0_3.xsize (grid0.coords t0_0) 0 = 1024 from by decide +kernel]; omega
      | ⟨1, _⟩ => show win0_3.index t0_0 1 * win0_3.size 1 ≤ (i 1 : Nat) ∧ (i 1 : Nat) < win0_3.index t0_0 1 * win0_3.size 1 + win0_3.xsize (grid0.coords t0_0) 1
                  rw [show win0_3.index t0_0 1 * win0_3.size 1 = 0 from by decide +kernel, show win0_3.xsize (grid0.coords t0_0) 1 = 3072 from by decide +kernel]; omega⟩

theorem outs4 (c : Dev nD) : (outsAt0 m c t0_0).2.1 = rSc m c := by
  unfold outsAt0
  dsimp only
  rw [out4, blk0, blk1, blk2]
  rfl

theorem flushed4 (c : Dev nD) (t : Fin cfg0.N) (hf : (cfg0.win 4).flush t = true) :
    (dats m 0 c).flushed 4 t = ((cfg0.win 4).blk t).view.read (Elt F) (rSc m c : Buf (Elt F) ((c : Thread nD τ).loc main_v2_1)) := by
  obtain rfl : t = t0_0 := fin_N0 t
  show (cfg0.win 4).cut (grid0.coords t0_0) ((dats m 0 c).after 4 t0_0) = _
  rw [after0_4, outs4]
  have hz' : (fun a => win0_4.index t0_0 a * main_v2_1.ty.shape.size a) = fun _ => 0 := funext fun a => by fin_cases a <;> decide
  exact (Memref.read_access_unit_zero (Elt F) main_v2_1 hz' (fun a => by rw [congrFun hz' a]; simp) (rSc m c)).symm

theorem final4 (c : Dev nD) : (dats m 0 c).arrAt 4 cfg0.N = (rSc m c : Buf (Elt F) ((c : Thread nD τ).loc main_v2_1)) :=
  (dats m 0 c).arrAt_eq_of_cover 4 (rSc m c) (flushed4 m c) fun i =>
    ⟨t0_0, flush0_4 t0_0, by
      show i ∈ ((View.whole main_v2_1).slice (win0_4.rect t0_0)).set
      rw [View.set_slice_whole, Rect.mem_set_unit]
      intro a
      have h0 : (i 0 : Nat) < 1 := (i 0).isLt
      have h1 : (i 1 : Nat) < 1 := (i 1).isLt
      match a with
      | ⟨0, _⟩ => show win0_4.index t0_0 0 * win0_4.size 0 ≤ (i 0 : Nat) ∧ (i 0 : Nat) < win0_4.index t0_0 0 * win0_4.size 0 + win0_4.xsize (grid0.coords t0_0) 0
                  rw [show win0_4.index t0_0 0 * win0_4.size 0 = 0 from by decide +kernel, show win0_4.xsize (grid0.coords t0_0) 0 = 1 from by decide +kernel]; omega
      | ⟨1, _⟩ => show win0_4.index t0_0 1 * win0_4.size 1 ≤ (i 1 : Nat) ∧ (i 1 : Nat) < win0_4.index t0_0 1 * win0_4.size 1 + win0_4.xsize (grid0.coords t0_0) 1
                  rw [show win0_4.index t0_0 1 * win0_4.size 1 = 0 from by decide +kernel, show win0_4.xsize (grid0.coords t0_0) 1 = 1 from by decide +kernel]; omega⟩

theorem outs5 (c : Dev nD) : (outsAt0 m c t0_0).2.2.1 = rAm m c := by
  unfold outsAt0
  dsimp only
  rw [out5, blk0, blk1, blk2]
  rfl

theorem flushed5 (c : Dev nD) (t : Fin cfg0.N) (hf : (cfg0.win 5).flush t = true) :
    (dats m 0 c).flushed 5 t = ((cfg0.win 5).blk t).view.read (Elt F) (rAm m c : Buf (Elt F) ((c : Thread nD τ).loc main_v2_2)) := by
  obtain rfl : t = t0_0 := fin_N0 t
  show (cfg0.win 5).cut (grid0.coords t0_0) ((dats m 0 c).after 5 t0_0) = _
  rw [after0_5, outs5]
  have hz' : (fun a => win0_5.index t0_0 a * main_v2_2.ty.shape.size a) = fun _ => 0 := funext fun a => by fin_cases a <;> decide
  exact (Memref.read_access_unit_zero (Elt F) main_v2_2 hz' (fun a => by rw [congrFun hz' a]; simp) (rAm m c)).symm

theorem final5 (c : Dev nD) : (dats m 0 c).arrAt 5 cfg0.N = (rAm m c : Buf (Elt F) ((c : Thread nD τ).loc main_v2_2)) :=
  (dats m 0 c).arrAt_eq_of_cover 5 (rAm m c) (flushed5 m c) fun i =>
    ⟨t0_0, flush0_5 t0_0, by
      show i ∈ ((View.whole main_v2_2).slice (win0_5.rect t0_0)).set
      rw [View.set_slice_whole, Rect.mem_set_unit]
      intro a
      have h0 : (i 0 : Nat) < 1 := (i 0).isLt
      have h1 : (i 1 : Nat) < 1 := (i 1).isLt
      match a with
      | ⟨0, _⟩ => show win0_5.index t0_0 0 * win0_5.size 0 ≤ (i 0 : Nat) ∧ (i 0 : Nat) < win0_5.index t0_0 0 * win0_5.size 0 + win0_5.xsize (grid0.coords t0_0) 0
                  rw [show win0_5.index t0_0 0 * win0_5.size 0 = 0 from by decide +kernel, show win0_5.xsize (grid0.coords t0_0) 0 = 1 from by decide +kernel]; omega
      | ⟨1, _⟩ => show win0_5.index t0_0 1 * win0_5.size 1 ≤ (i 1 : Nat) ∧ (i 1 : Nat) < win0_5.index t0_0 1 * win0_5.size 1 + win0_5.xsize (grid0.coords t0_0) 1
                  rw [show win0_5.index t0_0 1 * win0_5.size 1 = 0 from by decide +kernel, show win0_5.xsize (grid0.coords t0_0) 1 = 1 from by decide +kernel]; omega⟩

theorem outs6 (c : Dev nD) : (outsAt0 m c t0_0).2.2.2.1 = rX m c := by
  unfold outsAt0
  dsimp only
  rw [out6, blk0]
  rfl

theorem flushed6 (c : Dev nD) (t : Fin cfg0.N) (hf : (cfg0.win 6).flush t = true) :
    (dats m 0 c).flushed 6 t = ((cfg0.win 6).blk t).view.read (Elt F) (rX m c : Buf (Elt F) ((c : Thread nD τ).loc main_v2_3)) := by
  obtain rfl : t = t0_0 := fin_N0 t
  show (cfg0.win 6).cut (grid0.coords t0_0) ((dats m 0 c).after 6 t0_0) = _
  rw [after0_6, outs6]
  have hz' : (fun a => win0_6.index t0_0 a * main_v2_3.ty.shape.size a) = fun _ => 0 := funext fun a => by fin_cases a <;> decide
  exact (Memref.read_access_unit_zero (Elt F) main_v2_3 hz' (fun a => by rw [congrFun hz' a]; simp) (rX m c)).symm

theorem final6 (c : Dev nD) : (dats m 0 c).arrAt 6 cfg0.N = (rX m c : Buf (Elt F) ((c : Thread nD τ).loc main_v2_3)) :=
  (dats m 0 c).arrAt_eq_of_cover 6 (rX m c) (flushed6 m c) fun i =>
    ⟨t0_0, flush0_6 t0_0, by
      show i ∈ ((View.whole main_v2_3).slice (win0_6.rect t0_0)).set
      rw [View.set_slice_whole, Rect.mem_set_unit]
      intro a
      have h0 : (i 0 : Nat) < 1024 := (i 0).isLt
      have h1 : (i 1 : Nat) < 16384 := (i 1).isLt
      match a with
      | ⟨0, _⟩ => show win0_6.index t0_0 0 * win0_6.size 0 ≤ (i 0 : Nat) ∧ (i 0 : Nat) < win0_6.index t0_0 0 * win0_6.size 0 + win0_6.xsize (grid0.coords t0_0) 0
                  rw [show win0_6.index t0_0 0 * win0_6.size 0 = 0 from by decide +kernel, show win0_6.xsize (grid0.coords t0_0) 0 = 1024 from by decide +kernel]; omega
      | ⟨1, _⟩ => show win0_6.index t0_0 1 * win0_6.size 1 ≤ (i 1 : Nat) ∧ (i 1 : Nat) < win0_6.index t0_0 1 * win0_6.size 1 + win0_6.xsize (grid0.coords t0_0) 1
                  rw [show win0_6.index t0_0 1 * win0_6.size 1 = 0 from by decide +kernel, show win0_6.xsize (grid0.coords t0_0) 1 = 16384 from by decide +kernel]; omega⟩

theorem outs7 (c : Dev nD) : (outsAt0 m c t0_0).2.2.2.2 = rXs m c := by
  unfold outsAt0
  dsimp only
  rw [out7, blk0]
  rfl

theorem flushed7 (c : Dev nD) (t : Fin cfg0.N) (hf : (cfg0.win 7).flush t = true) :
    (dats m 0 c).flushed 7 t = ((cfg0.win 7).blk t).view.read (Elt F) (rXs m c : Buf (Elt F) ((c : Thread nD τ).loc main_v2_4)) := by
  obtain rfl : t = t0_0 := fin_N0 t
  show (cfg0.win 7).cut (grid0.coords t0_0) ((dats m 0 c).after 7 t0_0) = _
  rw [after0_7, outs7]
  have hz' : (fun a => win0_7.index t0_0 a * main_v2_4.ty.shape.size a) = fun _ => 0 := funext fun a => by fin_cases a <;> decide
  exact (Memref.read_access_unit_zero (Elt F) main_v2_4 hz' (fun a => by rw [congrFun hz' a]; simp) (rXs m c)).symm

theorem final7 (c : Dev nD) : (dats m 0 c).arrAt 7 cfg0.N = (rXs m c : Buf (Elt F) ((c : Thread nD τ).loc main_v2_4)) :=
  (dats m 0 c).arrAt_eq_of_cover 7 (rXs m c) (flushed7 m c) fun i =>
    ⟨t0_0, flush0_7 t0_0, by
      show i ∈ ((View.whole main_v2_4).slice (win0_7.rect t0_0)).set
      rw [View.set_slice_whole, Rect.mem_set_unit]
      intro a
      have h0 : (i 0 : Nat) < 1 := (i 0).isLt
      have h1 : (i 1 : Nat) < 1 := (i 1).isLt
      match a with
      | ⟨0, _⟩ => show win0_7.index t0_0 0 * win0_7.size 0 ≤ (i 0 : Nat) ∧ (i 0 : Nat) < win0_7.index t0_0 0 * win0_7.size 0 + win0_7.xsize (grid0.coords t0_0) 0
                  rw [show win0_7.index t0_0 0 * win0_7.size 0 = 0 from by decide +kernel, show win0_7.xsize (grid0.coords t0_0) 0 = 1 from by decide +kernel]; omega
      | ⟨1, _⟩ => show win0_7.index t0_0 1 * win0_7.size 1 ≤ (i 1 : Nat) ∧ (i 1 : Nat) < win0_7.index t0_0 1 * win0_7.size 1 + win0_7.xsize (grid0.coords t0_0) 1
                  rw [show win0_7.index t0_0 1 * win0_7.size 1 = 0 from by decide +kernel, show win0_7.xsize (grid0.coords t0_0) 1 = 1 from by decide +kernel]; omega⟩

theorem head_v0 (c : Dev nD) : V m c main_v0
    = (shapeCast main_v0.ty.shape (m ((c : Thread nD τ).loc main_arg0)) shapeCasts_S1x1024x16384_S1024x16384 : Buf (Elt F) ((c : Thread nD τ).loc main_v0)) := by
  simp only [V, V0, hostOps0, List.flatten_cons, List.flatten_nil, List.append_nil, StableHlo.after_cons, StableHlo.after_nil]
  rw [StableHlo.reshape_result_ne _ _ _ _ _ _ _ (by decide)]
  exact StableHlo.reshape_result _ _ _ _ _ _ _

theorem head_v1 (c : Dev nD) : V m c main_v1
    = (shapeCast main_v1.ty.shape (m ((c : Thread nD τ).loc main_arg2)) shapeCasts_S_S1x1 : Buf (Elt F) ((c : Thread nD τ).loc main_v1)) := by
  simp only [V, V0, hostOps0, List.flatten_cons, List.flatten_nil, List.append_nil, StableHlo.after_cons, StableHlo.after_nil]
  refine (StableHlo.reshape_result _ _ _ _ _ _ _).trans ?_
  rw [StableHlo.reshape_result_ne _ _ _ _ _ _ _ (by decide)]

theorem tail_v3 (c : Dev nD) (U : Valuation τ sig (Elt F)) : StableHlo.after (List.flatten [hostOps1]) U (Proc.devRef .tc main_v3)
    = (shapeCast main_v3.ty.shape (U (Proc.devRef .tc main_v2_0) : Buf (Elt F) ((c : Thread nD τ).loc main_v2_0)) shapeCasts_S1024x3072_S1x1024x3072 : Buf (Elt F) ((c : Thread nD τ).loc main_v3)) := by
  simp only [hostOps1, List.flatten_cons, List.flatten_nil, List.append_nil, StableHlo.after_cons, StableHlo.after_nil]
  rw [StableHlo.reshape_result_ne _ _ _ _ _ _ _ (by decide)]
  rw [StableHlo.reshape_result_ne _ _ _ _ _ _ _ (by decide)]
  rw [StableHlo.reshape_result_ne _ _ _ _ _ _ _ (by decide)]
  rw [StableHlo.reshape_result_ne _ _ _ _ _ _ _ (by decide)]
  refine (StableHlo.reshape_result _ _ _ _ _ _ _).trans ?_
  rfl

theorem tail_v4 (c : Dev nD) (U : Valuation τ sig (Elt F)) : StableHlo.after (List.flatten [hostOps1]) U (Proc.devRef .tc main_v4)
    = (shapeCast main_v4.ty.shape (U (Proc.devRef .tc main_v2_1) : Buf (Elt F) ((c : Thread nD τ).loc main_v2_1)) shapeCasts_S1x1_S_ : Buf (Elt F) ((c : Thread nD τ).loc main_v4)) := by
  simp only [hostOps1, List.flatten_cons, List.flatten_nil, List.append_nil, StableHlo.after_cons, StableHlo.after_nil]
  rw [StableHlo.reshape_result_ne _ _ _ _ _ _ _ (by decide)]
  rw [StableHlo.reshape_result_ne _ _ _ _ _ _ _ (by decide)]
  rw [StableHlo.reshape_result_ne _ _ _ _ _ _ _ (by decide)]
  refine (StableHlo.reshape_result _ _ _ _ _ _ _).trans ?_
  rw [StableHlo.reshape_result_ne _ _ _ _ _ _ _ (by decide)]

theorem tail_v5 (c : Dev nD) (U : Valuation τ sig (Elt F)) : StableHlo.after (List.flatten [hostOps1]) U (Proc.devRef .tc main_v5)
    = (shapeCast main_v5.ty.shape (U (Proc.devRef .tc main_v2_2) : Buf (Elt F) ((c : Thread nD τ).loc main_v2_2)) shapeCasts_S1x1_S_ : Buf (Elt F) ((c : Thread nD τ).loc main_v5)) := by
  simp only [hostOps1, List.flatten_cons, List.flatten_nil, List.append_nil, StableHlo.after_cons, StableHlo.after_nil]
  rw [StableHlo.reshape_result_ne _ _ _ _ _ _ _ (by decide)]
  rw [StableHlo.reshape_result_ne _ _ _ _ _ _ _ (by decide)]
  refine (StableHlo.reshape_result _ _ _ _ _ _ _).trans ?_
  rw [StableHlo.reshape_result_ne _ _ _ _ _ _ _ (by decide)]
  rw [StableHlo.reshape_result_ne _ _ _ _ _ _ _ (by decide)]

theorem tail_v6 (c : Dev nD) (U : Valuation τ sig (Elt F)) : StableHlo.after (List.flatten [hostOps1]) U (Proc.devRef .tc main_v6)
    = (shapeCast main_v6.ty.shape (U (Proc.devRef .tc main_v2_3) : Buf (Elt F) ((c : Thread nD τ).loc main_v2_3)) shapeCasts_S1024x16384_S1x1024x16384 : Buf (Elt F) ((c : Thread nD τ).loc main_v6)) := by
  simp only [hostOps1, List.flatten_cons, List.flatten_nil, List.append_nil, StableHlo.after_cons, StableHlo.after_nil]
  rw [StableHlo.reshape_result_ne _ _ _ _ _ _ _ (by decide)]
  refine (StableHlo.reshape_result _ _ _ _ _ _ _).trans ?_
  rw [StableHlo.reshape_result_ne _ _ _ _ _ _ _ (by decide)]
  rw [StableHlo.reshape_result_ne _ _ _ _ _ _ _ (by decide)]
  rw [StableHlo.reshape_result_ne _ _ _ _ _ _ _ (by decide)]

theorem tail_v7 (c : Dev nD) (U : Valuation τ sig (Elt F)) : StableHlo.after (List.flatten [hostOps1]) U (Proc.devRef .tc main_v7)
    = (shapeCast main_v7.ty.shape (U (Proc.devRef .tc main_v2_4) : Buf (Elt F) ((c : Thread nD τ).loc main_v2_4)) shapeCasts_S1x1_S_ : Buf (Elt F) ((c : Thread nD τ).loc main_v7)) := by
  simp only [hostOps1, List.flatten_cons, List.flatten_nil, List.append_nil, StableHlo.after_cons, StableHlo.after_nil]
  refine (StableHlo.reshape_result _ _ _ _ _ _ _).trans ?_
  rw [StableHlo.reshape_result_ne _ _ _ _ _ _ _ (by decide)]
  rw [StableHlo.reshape_result_ne _ _ _ _ _ _ _ (by decide)]
  rw [StableHlo.reshape_result_ne _ _ _ _ _ _ _ (by decide)]
  rw [StableHlo.reshape_result_ne _ _ _ _ _ _ _ (by decide)]

theorem inj : Function.Injective (Pipeline.arrRef spec0) := by decide

theorem end_v3 (c : Dev nD) : Pipeline.afterTail₀ cfgs (dats m) 0 (V0 m) [hostOps1] c main_v3
    = (shapeCast main_v3.ty.shape (rY m c) shapeCasts_S1024x3072_S1x1024x3072 : Buf (Elt F) ((c : Thread nD τ).loc main_v3)) := by
  unfold Pipeline.afterTail₀
  rw [tail_v3 c]
  exact congrArg (fun b => (shapeCast main_v3.ty.shape b shapeCasts_S1024x3072_S1x1024x3072 : Buf (Elt F) ((c : Thread nD τ).loc main_v3)))
    ((Pipeline.withArrays_arr spec0 inj c (V0 m c) (fun w => (dats m 0 c).arrAt w cfg0.N) 3).trans (final3 m c))

theorem end_v4 (c : Dev nD) : Pipeline.afterTail₀ cfgs (dats m) 0 (V0 m) [hostOps1] c main_v4
    = (shapeCast main_v4.ty.shape (rSc m c) shapeCasts_S1x1_S_ : Buf (Elt F) ((c : Thread nD τ).loc main_v4)) := by
  unfold Pipeline.afterTail₀
  rw [tail_v4 c]
  exact congrArg (fun b => (shapeCast main_v4.ty.shape b shapeCasts_S1x1_S_ : Buf (Elt F) ((c : Thread nD τ).loc main_v4)))
    ((Pipeline.withArrays_arr spec0 inj c (V0 m c) (fun w => (dats m 0 c).arrAt w cfg0.N) 4).trans (final4 m c))

theorem end_v5 (c : Dev nD) : Pipeline.afterTail₀ cfgs (dats m) 0 (V0 m) [hostOps1] c main_v5
    = (shapeCast main_v5.ty.shape (rAm m c) shapeCasts_S1x1_S_ : Buf (Elt F) ((c : Thread nD τ).loc main_v5)) := by
  unfold Pipeline.afterTail₀
  rw [tail_v5 c]
  exact congrArg (fun b => (shapeCast main_v5.ty.shape b shapeCasts_S1x1_S_ : Buf (Elt F) ((c : Thread nD τ).loc main_v5)))
    ((Pipeline.withArrays_arr spec0 inj c (V0 m c) (fun w => (dats m 0 c).arrAt w cfg0.N) 5).trans (final5 m c))

theorem end_v6 (c : Dev nD) : Pipeline.afterTail₀ cfgs (dats m) 0 (V0 m) [hostOps1] c main_v6
    = (shapeCast main_v6.ty.shape (rX m c) shapeCasts_S1024x16384_S1x1024x16384 : Buf (Elt F) ((c : Thread nD τ).loc main_v6)) := by
  unfold Pipeline.afterTail₀
  rw [tail_v6 c]
  exact congrArg (fun b => (shapeCast main_v6.ty.shape b shapeCasts_S1024x16384_S1x1024x16384 : Buf (Elt F) ((c : Thread nD τ).loc main_v6)))
    ((Pipeline.withArrays_arr spec0 inj c (V0 m c) (fun w => (dats m 0 c).arrAt w cfg0.N) 6).trans (final6 m c))

theorem end_v7 (c : Dev nD) : Pipeline.afterTail₀ cfgs (dats m) 0 (V0 m) [hostOps1] c main_v7
    = (shapeCast main_v7.ty.shape (rXs m c) shapeCasts_S1x1_S_ : Buf (Elt F) ((c : Thread nD τ).loc main_v7)) := by
  unfold Pipeline.afterTail₀
  rw [tail_v7 c]
  exact congrArg (fun b => (shapeCast main_v7.ty.shape b shapeCasts_S1x1_S_ : Buf (Elt F) ((c : Thread nD τ).loc main_v7)))
    ((Pipeline.withArrays_arr spec0 inj c (V0 m c) (fun w => (dats m 0 c).arrAt w cfg0.N) 7).trans (final7 m c))

/-- The run, read: the five results and the arguments. -/
theorem run : θ_run defs (onTc (τ := τ) (main (F := F))) ⟨m, fun _ => 0, ρ⟩ (fun r => ∀ c : Dev nD, (r.2.mem ((c : Thread nD τ).loc main_v3) = (shapeCast main_v3.ty.shape (rY m c) shapeCasts_S1024x3072_S1x1024x3072 : Buf (Elt F) ((c : Thread nD τ).loc main_v3))
      ∧ r.2.mem ((c : Thread nD τ).loc main_v4) = (shapeCast main_v4.ty.shape (rSc m c) shapeCasts_S1x1_S_ : Buf (Elt F) ((c : Thread nD τ).loc main_v4))
      ∧ r.2.mem ((c : Thread nD τ).loc main_v5) = (shapeCast main_v5.ty.shape (rAm m c) shapeCasts_S1x1_S_ : Buf (Elt F) ((c : Thread nD τ).loc main_v5))
      ∧ r.2.mem ((c : Thread nD τ).loc main_v6) = (shapeCast main_v6.ty.shape (rX m c) shapeCasts_S1024x16384_S1x1024x16384 : Buf (Elt F) ((c : Thread nD τ).loc main_v6))
      ∧ r.2.mem ((c : Thread nD τ).loc main_v7) = (shapeCast main_v7.ty.shape (rXs m c) shapeCasts_S1x1_S_ : Buf (Elt F) ((c : Thread nD τ).loc main_v7)))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))) :=
  (θ_run defs _ _).mono (fun _ h c => ⟨⟨((h.1 c).2 main_v3 (Pipeline.mem_restRefs_of main_v3 (by decide) (by decide))).trans (end_v3 m c), ((h.1 c).2 main_v4 (Pipeline.mem_restRefs_of main_v4 (by decide) (by decide))).trans (end_v4 m c), ((h.1 c).2 main_v5 (Pipeline.mem_restRefs_of main_v5 (by decide) (by decide))).trans (end_v5 m c), ((h.1 c).2 main_v6 (Pipeline.mem_restRefs_of main_v6 (by decide) (by decide))).trans (end_v6 m c), ((h.1 c).2 main_v7 (Pipeline.mem_restRefs_of main_v7 (by decide) (by decide))).trans (end_v7 m c)⟩, h.2 c⟩) (θ_run_and (run_main m ρ) (unchanged m ρ))

end Cert.Proof.Reference

end
-- ==== Proof.Algebra.lean ====
/- The kernel and the reference leave the same five results. -/
module

public import proofs.«01_k».proof.Defs
public import proofs.«01_k».proof.Proof.KVal
public import proofs.«01_k».proof.Proof.KArr
public import proofs.«01_k».proof.Proof.RArr

@[expose] public section

noncomputable section

namespace Cert.Proof

open Idealize.ShloMosaic Idealize.ShloMosaic.TcCoe Idealize.SL.Sem
open Idealize.ShloMosaic.ValueIdx

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- Both find the same `x`, -/
theorem same_x (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    (RunKernelIdeal.XA0 m c : Vec Ideal Cert.ReferenceIdeal.S1024x16384 .bf16) = Cert.ReferenceIdeal.Gen.V m' c Cert.ReferenceIdeal.main_v0 := by
  refine (RunKernelIdeal.head_v0 m c).trans (Eq.trans ?_ (Reference.head_v0 m' c).symm)
  exact congrArg (fun b : Vec Ideal Cert.ReferenceIdeal.S1x1024x16384 .bf16 => (shapeCast Cert.ReferenceIdeal.S1024x16384 b Cert.ReferenceIdeal.Gen.shapeCasts_S1x1024x16384_S1024x16384
    : Vec Ideal Cert.ReferenceIdeal.S1024x16384 .bf16)) h0.symm

/-- the same weights, -/
theorem same_w (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    (RunKernelIdeal.WA0 m c : Vec Ideal Cert.ReferenceIdeal.S16384x3072 .fp8e4m3) = Cert.ReferenceIdeal.Gen.V m' c Cert.ReferenceIdeal.main_arg1 :=
  (Cert.KernelIdeal.Gen.V_main_arg1 m c).trans (h1.symm.trans (Cert.ReferenceIdeal.Gen.V_main_arg1 m' c).symm)

/-- and the same scale of the weights. -/
theorem same_s (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    (RunKernelIdeal.ws0 m c : Ideal .f32) = (Cert.ReferenceIdeal.Gen.V m' c Cert.ReferenceIdeal.main_v1 : Vec Ideal Cert.ReferenceIdeal.S1x1 .f32) (ix2 (0 : Fin 1) (0 : Fin 1)) := by
  refine (RunKernelIdeal.ws0_at m c).trans ?_
  refine congrFun (f := (Cert.KernelIdeal.Gen.V m c Cert.KernelIdeal.main_v1 : Vec Ideal Cert.ReferenceIdeal.S1x1 .f32)) ?_ (ix2 (0 : Fin 1) (0 : Fin 1))
  refine (RunKernelIdeal.head_v1 m c).trans (Eq.trans ?_ (Reference.head_v1 m' c).symm)
  exact congrArg (fun b : Vec Ideal Cert.ReferenceIdeal.S_ .f32 => (shapeCast Cert.ReferenceIdeal.S1x1 b Cert.ReferenceIdeal.Gen.shapeCasts_S_S1x1
    : Vec Ideal Cert.ReferenceIdeal.S1x1 .f32)) h2.symm

variable (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
include h0

theorem same_X : Reference.rX m' c = RunKernelIdeal.outX c (RunKernelIdeal.XA0 m c) := by
  unfold Reference.rX
  rw [← same_x m m' c h0]
  exact (outX_eq c (RunKernelIdeal.XA0 m c)).symm

theorem same_Xs : Reference.rXs m' c = RunKernelIdeal.outXs c (RunKernelIdeal.XA0 m c) := by
  unfold Reference.rXs
  rw [← same_x m m' c h0]
  exact (outXs_eq c (RunKernelIdeal.XA0 m c)).symm

include h1 h2

theorem same_Y : Reference.rY m' c = RunKernelIdeal.outY c (RunKernelIdeal.XA0 m c) (RunKernelIdeal.WA0 m c) (RunKernelIdeal.ws0 m c) := by
  unfold Reference.rY
  rw [← same_x m m' c h0, ← same_w m m' c h1, ← same_s m m' c h2]
  exact (outY_eq c (RunKernelIdeal.XA0 m c) (RunKernelIdeal.WA0 m c) (RunKernelIdeal.ws0 m c)).symm

theorem same_Sc : Reference.rSc m' c = RunKernelIdeal.outSc c (RunKernelIdeal.XA0 m c) (RunKernelIdeal.WA0 m c) (RunKernelIdeal.ws0 m c) := by
  unfold Reference.rSc
  rw [← same_x m m' c h0, ← same_w m m' c h1, ← same_s m m' c h2]
  exact (outSc_eq c (RunKernelIdeal.XA0 m c) (RunKernelIdeal.WA0 m c) (RunKernelIdeal.ws0 m c)).symm

theorem same_Am : Reference.rAm m' c = RunKernelIdeal.outAm c (RunKernelIdeal.XA0 m c) (RunKernelIdeal.WA0 m c) (RunKernelIdeal.ws0 m c) := by
  unfold Reference.rAm
  rw [← same_x m m' c h0, ← same_w m m' c h1, ← same_s m m' c h2]
  exact (outAm_eq c (RunKernelIdeal.XA0 m c) (RunKernelIdeal.WA0 m c) (RunKernelIdeal.ws0 m c)).symm

end

/-- The two programs leave the same five results. -/
theorem algebraic : Cert.algebraic_KernelIdeal_ReferenceIdeal (hKernelIdeal := Cert.KernelIdeal.Gen.facts) (hReferenceIdeal := Cert.ReferenceIdeal.Gen.facts) := by
  intro m g m' g' _ hm
  refine ⟨fun c => (shapeCast Cert.KernelIdeal.main_v3.ty.shape (RunKernelIdeal.outY c (RunKernelIdeal.XA0 m c) (RunKernelIdeal.WA0 m c) (RunKernelIdeal.ws0 m c)) Cert.KernelIdeal.Gen.shapeCasts_S1024x3072_S1x1024x3072 : Buf (Elt Ideal) ((c.tc : Thread Cert.KernelIdeal.nD Cert.KernelIdeal.τ).loc Cert.KernelIdeal.main_v3)),
    fun c => (shapeCast Cert.KernelIdeal.main_v4.ty.shape (RunKernelIdeal.outSc c (RunKernelIdeal.XA0 m c) (RunKernelIdeal.WA0 m c) (RunKernelIdeal.ws0 m c)) Cert.KernelIdeal.Gen.shapeCasts_S1x1_S_ : Buf (Elt Ideal) ((c.tc : Thread Cert.KernelIdeal.nD Cert.KernelIdeal.τ).loc Cert.KernelIdeal.main_v4)),
    fun c => (shapeCast Cert.KernelIdeal.main_v5.ty.shape (RunKernelIdeal.outAm c (RunKernelIdeal.XA0 m c) (RunKernelIdeal.WA0 m c) (RunKernelIdeal.ws0 m c)) Cert.KernelIdeal.Gen.shapeCasts_S1x1_S_ : Buf (Elt Ideal) ((c.tc : Thread Cert.KernelIdeal.nD Cert.KernelIdeal.τ).loc Cert.KernelIdeal.main_v5)),
    fun c => (shapeCast Cert.KernelIdeal.main_v6.ty.shape (RunKernelIdeal.outX c (RunKernelIdeal.XA0 m c)) Cert.KernelIdeal.Gen.shapeCasts_S1024x16384_S1x1024x16384 : Buf (Elt Ideal) ((c.tc : Thread Cert.KernelIdeal.nD Cert.KernelIdeal.τ).loc Cert.KernelIdeal.main_v6)),
    fun c => (shapeCast Cert.KernelIdeal.main_v7.ty.shape (RunKernelIdeal.outXs c (RunKernelIdeal.XA0 m c)) Cert.KernelIdeal.Gen.shapeCasts_S1x1_S_ : Buf (Elt Ideal) ((c.tc : Thread Cert.KernelIdeal.nD Cert.KernelIdeal.τ).loc Cert.KernelIdeal.main_v7)), ?_, ?_⟩
  · exact (θ_run _ _ _).mono (fun r h c => ⟨(h c).1.1, (h c).1.2.1, (h c).1.2.2.1, (h c).1.2.2.2.1, (h c).1.2.2.2.2, (h c).2⟩) (RunKernelIdeal.run (F := Ideal) m g)
  · exact (θ_run _ _ _).mono (fun r h c => ⟨((h c).1.1).trans (congrArg (fun b => (shapeCast Cert.ReferenceIdeal.main_v3.ty.shape b Cert.ReferenceIdeal.Gen.shapeCasts_S1024x3072_S1x1024x3072 : Buf (Elt Ideal) ((c.tc : Thread Cert.ReferenceIdeal.nD Cert.ReferenceIdeal.τ).loc Cert.ReferenceIdeal.main_v3))) (same_Y m m' c (hm c).1 (hm c).2.1 (hm c).2.2)),
      ((h c).1.2.1).trans (congrArg (fun b => (shapeCast Cert.ReferenceIdeal.main_v4.ty.shape b Cert.ReferenceIdeal.Gen.shapeCasts_S1x1_S_ : Buf (Elt Ideal) ((c.tc : Thread Cert.ReferenceIdeal.nD Cert.ReferenceIdeal.τ).loc Cert.ReferenceIdeal.main_v4))) (same_Sc m m' c (hm c).1 (hm c).2.1 (hm c).2.2)),
      ((h c).1.2.2.1).trans (congrArg (fun b => (shapeCast Cert.ReferenceIdeal.main_v5.ty.shape b Cert.ReferenceIdeal.Gen.shapeCasts_S1x1_S_ : Buf (Elt Ideal) ((c.tc : Thread Cert.ReferenceIdeal.nD Cert.ReferenceIdeal.τ).loc Cert.ReferenceIdeal.main_v5))) (same_Am m m' c (hm c).1 (hm c).2.1 (hm c).2.2)),
      ((h c).1.2.2.2.1).trans (congrArg (fun b => (shapeCast Cert.ReferenceIdeal.main_v6.ty.shape b Cert.ReferenceIdeal.Gen.shapeCasts_S1024x16384_S1x1024x16384 : Buf (Elt Ideal) ((c.tc : Thread Cert.ReferenceIdeal.nD Cert.ReferenceIdeal.τ).loc Cert.ReferenceIdeal.main_v6))) (same_X m m' c (hm c).1)),
      ((h c).1.2.2.2.2).trans (congrArg (fun b => (shapeCast Cert.ReferenceIdeal.main_v7.ty.shape b Cert.ReferenceIdeal.Gen.shapeCasts_S1x1_S_ : Buf (Elt Ideal) ((c.tc : Thread Cert.ReferenceIdeal.nD Cert.ReferenceIdeal.τ).loc Cert.ReferenceIdeal.main_v7))) (same_Xs m m' c (hm c).1)),
      (h c).2⟩) (Reference.run (F := Ideal) m' g')

end Cert.Proof

end
-- ==== Proof.lean ====
/- The certificate: the frames of the kernel, of its idealized printing and of the reference, and what they compute. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Same
public import proofs.«01_k».proof.Proof.Algebra
public import Idealize.ShloMosaic.Adequacy
public import Idealize.ShloMosaic.Init

@[expose] public section

noncomputable section

namespace Cert.Proof

open Idealize.ShloMosaic Idealize.SL.Sem

/-- The claim. -/
theorem claim : Cert.Claim :=
  ⟨Cert.Kernel.Gen.facts, Cert.KernelIdeal.Gen.facts, Cert.ReferenceIdeal.Gen.facts,
    quiet_Kernel,
    fun m g _ => Cert.Proof.RunKernelIdeal.quiet (F := Ideal) m g,
    fun m g _ => Cert.ReferenceIdeal.Gen.frame m g,
    trivial, algebraic⟩

end Cert.Proof

end
